-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 2048]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x2048 : Shape := ⟨2, ![2048, 2048]⟩
abbrev S1024x1024 : Shape := ⟨2, ![1024, 1024]⟩
abbrev S16 : Shape := ⟨1, ![16]⟩
abbrev S1 : Shape := ⟨1, ![1]⟩
abbrev S_ : Shape := ⟨0, ![]⟩
abbrev S64x1024 : Shape := ⟨2, ![64, 1024]⟩
abbrev S1x64x1024 : Shape := ⟨3, ![1, 64, 1024]⟩

abbrev nBuf : Space → Nat
  | .hbm => 2
  | .vmem => 6
  | .smem => 0
  | _ => 0

abbrev bufTy : (tb : Table) → Fin (tcTables nBuf tb) → BufTy
  | .hbm, ⟨0, _⟩ => ⟨S1x2048x1024, .f32⟩
  | .hbm, ⟨1, _⟩ => ⟨S2048x2048, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S1x2048x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 192 → Bool
  | ⟨i, _⟩ => dmaSemScopedAt i

abbrev sig : RefSig :=
  (ofTc nBuf bufTy 1 192 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 3 → Nat :=
  let c0_i32_6 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_4 : BitVec 32 := 1024#32
  let v9 : BitVec 32 := Scalar.muli v6 c1024_i32_4
  let v11 : BitVec 32 := Scalar.addi v9 c0_i32
  let c0_i32_10 : BitVec 32 := 0#32
  ![0, v11.toNat, 0]
def k0_off2 (d0 : Dev nD) (c0_i32_73 : BitVec 32) : Fin 3 → Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v107 : BitVec 32 := Scalar.addi v8 c0_i32_73
  let c0_i32_78 : BitVec 32 := 0#32
  ![0, v107.toNat, 0]
def k0_dev1 (d0 : Dev nD) : Nat :=
  let c0_i32_171 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_170 : BitVec 32 := 2#32
  let v204 : BitVec 32 := Scalar.muli v6 c2_i32_170
  let v205 : BitVec 32 := Scalar.addi c0_i32_171 v204
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_172 : BitVec 32 := 1#32
  let v206 : BitVec 32 := Scalar.muli v5 c1_i32_172
  let v207 : BitVec 32 := Scalar.addi v205 v206
  v207.toNat
def k0_dev2 (d0 : Dev nD) : Nat :=
  let c0_i32_175 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_174 : BitVec 32 := 2#32
  let v208 : BitVec 32 := Scalar.muli v2 c2_i32_174
  let v209 : BitVec 32 := Scalar.addi c0_i32_175 v208
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_176 : BitVec 32 := 1#32
  let v210 : BitVec 32 := Scalar.muli v7 c1_i32_176
  let v211 : BitVec 32 := Scalar.addi v209 v210
  v211.toNat
def k0_dev3 (d0 : Dev nD) : Nat :=
  let c0_i32_189 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_188 : BitVec 32 := 2#32
  let v222 : BitVec 32 := Scalar.muli v6 c2_i32_188
  let v223 : BitVec 32 := Scalar.addi c0_i32_189 v222
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_190 : BitVec 32 := 1#32
  let v224 : BitVec 32 := Scalar.muli v5 c1_i32_190
  let v225 : BitVec 32 := Scalar.addi v223 v224
  v225.toNat
def k0_dev4 (d0 : Dev nD) : Nat :=
  let c0_i32_206 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_205 : BitVec 32 := 2#32
  let v242 : BitVec 32 := Scalar.muli v6 c2_i32_205
  let v243 : BitVec 32 := Scalar.addi c0_i32_206 v242
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_207 : BitVec 32 := 1#32
  let v244 : BitVec 32 := Scalar.muli v5 c1_i32_207
  let v245 : BitVec 32 := Scalar.addi v243 v244
  v245.toNat
def k0_dev5 (d0 : Dev nD) : Nat :=
  let c0_i32_223 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_222 : BitVec 32 := 2#32
  let v262 : BitVec 32 := Scalar.muli v6 c2_i32_222
  let v263 : BitVec 32 := Scalar.addi c0_i32_223 v262
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_224 : BitVec 32 := 1#32
  let v264 : BitVec 32 := Scalar.muli v5 c1_i32_224
  let v265 : BitVec 32 := Scalar.addi v263 v264
  v265.toNat
def k0_dev6 (d0 : Dev nD) : Nat :=
  let c0_i32_240 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_239 : BitVec 32 := 2#32
  let v282 : BitVec 32 := Scalar.muli v6 c2_i32_239
  let v283 : BitVec 32 := Scalar.addi c0_i32_240 v282
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_241 : BitVec 32 := 1#32
  let v284 : BitVec 32 := Scalar.muli v5 c1_i32_241
  let v285 : BitVec 32 := Scalar.addi v283 v284
  v285.toNat
def k0_dev7 (d0 : Dev nD) : Nat :=
  let c0_i32_257 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_256 : BitVec 32 := 2#32
  let v302 : BitVec 32 := Scalar.muli v6 c2_i32_256
  let v303 : BitVec 32 := Scalar.addi c0_i32_257 v302
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_258 : BitVec 32 := 1#32
  let v304 : BitVec 32 := Scalar.muli v5 c1_i32_258
  let v305 : BitVec 32 := Scalar.addi v303 v304
  v305.toNat
def k0_dev8 (d0 : Dev nD) : Nat :=
  let c0_i32_274 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_273 : BitVec 32 := 2#32
  let v322 : BitVec 32 := Scalar.muli v6 c2_i32_273
  let v323 : BitVec 32 := Scalar.addi c0_i32_274 v322
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_275 : BitVec 32 := 1#32
  let v324 : BitVec 32 := Scalar.muli v5 c1_i32_275
  let v325 : BitVec 32 := Scalar.addi v323 v324
  v325.toNat
def k0_dev9 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v342 : BitVec 32 := Scalar.muli v6 c2_i32_290
  let v343 : BitVec 32 := Scalar.addi c0_i32_291 v342
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v344 : BitVec 32 := Scalar.muli v5 c1_i32_292
  let v345 : BitVec 32 := Scalar.addi v343 v344
  v345.toNat
def k0_dev10 (d0 : Dev nD) : Nat :=
  let c0_i32_308 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_307 : BitVec 32 := 2#32
  let v362 : BitVec 32 := Scalar.muli v6 c2_i32_307
  let v363 : BitVec 32 := Scalar.addi c0_i32_308 v362
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_309 : BitVec 32 := 1#32
  let v364 : BitVec 32 := Scalar.muli v5 c1_i32_309
  let v365 : BitVec 32 := Scalar.addi v363 v364
  v365.toNat
def k0_dev11 (d0 : Dev nD) : Nat :=
  let c0_i32_325 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_324 : BitVec 32 := 2#32
  let v382 : BitVec 32 := Scalar.muli v6 c2_i32_324
  let v383 : BitVec 32 := Scalar.addi c0_i32_325 v382
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_326 : BitVec 32 := 1#32
  let v384 : BitVec 32 := Scalar.muli v5 c1_i32_326
  let v385 : BitVec 32 := Scalar.addi v383 v384
  v385.toNat
def k0_dev12 (d0 : Dev nD) : Nat :=
  let c0_i32_342 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_341 : BitVec 32 := 2#32
  let v402 : BitVec 32 := Scalar.muli v6 c2_i32_341
  let v403 : BitVec 32 := Scalar.addi c0_i32_342 v402
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_343 : BitVec 32 := 1#32
  let v404 : BitVec 32 := Scalar.muli v5 c1_i32_343
  let v405 : BitVec 32 := Scalar.addi v403 v404
  v405.toNat
def k0_dev13 (d0 : Dev nD) : Nat :=
  let c0_i32_359 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_358 : BitVec 32 := 2#32
  let v422 : BitVec 32 := Scalar.muli v6 c2_i32_358
  let v423 : BitVec 32 := Scalar.addi c0_i32_359 v422
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_360 : BitVec 32 := 1#32
  let v424 : BitVec 32 := Scalar.muli v5 c1_i32_360
  let v425 : BitVec 32 := Scalar.addi v423 v424
  v425.toNat
def k0_dev14 (d0 : Dev nD) : Nat :=
  let c0_i32_376 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_375 : BitVec 32 := 2#32
  let v442 : BitVec 32 := Scalar.muli v6 c2_i32_375
  let v443 : BitVec 32 := Scalar.addi c0_i32_376 v442
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_377 : BitVec 32 := 1#32
  let v444 : BitVec 32 := Scalar.muli v5 c1_i32_377
  let v445 : BitVec 32 := Scalar.addi v443 v444
  v445.toNat
def k0_dev15 (d0 : Dev nD) : Nat :=
  let c0_i32_393 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_392 : BitVec 32 := 2#32
  let v462 : BitVec 32 := Scalar.muli v6 c2_i32_392
  let v463 : BitVec 32 := Scalar.addi c0_i32_393 v462
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_394 : BitVec 32 := 1#32
  let v464 : BitVec 32 := Scalar.muli v5 c1_i32_394
  let v465 : BitVec 32 := Scalar.addi v463 v464
  v465.toNat
def k0_dev16 (d0 : Dev nD) : Nat :=
  let c0_i32_410 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_409 : BitVec 32 := 2#32
  let v482 : BitVec 32 := Scalar.muli v6 c2_i32_409
  let v483 : BitVec 32 := Scalar.addi c0_i32_410 v482
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_411 : BitVec 32 := 1#32
  let v484 : BitVec 32 := Scalar.muli v5 c1_i32_411
  let v485 : BitVec 32 := Scalar.addi v483 v484
  v485.toNat
def k0_dev17 (d0 : Dev nD) : Nat :=
  let c0_i32_427 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_426 : BitVec 32 := 2#32
  let v502 : BitVec 32 := Scalar.muli v6 c2_i32_426
  let v503 : BitVec 32 := Scalar.addi c0_i32_427 v502
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_428 : BitVec 32 := 1#32
  let v504 : BitVec 32 := Scalar.muli v5 c1_i32_428
  let v505 : BitVec 32 := Scalar.addi v503 v504
  v505.toNat
def k0_dev18 (d0 : Dev nD) : Nat :=
  let c0_i32_444 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_443 : BitVec 32 := 2#32
  let v522 : BitVec 32 := Scalar.muli v6 c2_i32_443
  let v523 : BitVec 32 := Scalar.addi c0_i32_444 v522
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_445 : BitVec 32 := 1#32
  let v524 : BitVec 32 := Scalar.muli v5 c1_i32_445
  let v525 : BitVec 32 := Scalar.addi v523 v524
  v525.toNat
def k0_off3 (d0 : Dev nD) (c0_i32_470 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v552 : BitVec 32 := Scalar.addi v8 c0_i32_470
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v10 : BitVec 32 := Scalar.muli v5 c1024_i32_5
  ![v552.toNat, v10.toNat]
def k0_dev19 (d0 : Dev nD) : Nat :=
  let c0_i32_474 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_473 : BitVec 32 := 2#32
  let v553 : BitVec 32 := Scalar.muli v2 c2_i32_473
  let v554 : BitVec 32 := Scalar.addi c0_i32_474 v553
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_475 : BitVec 32 := 1#32
  let v555 : BitVec 32 := Scalar.muli v7 c1_i32_475
  let v556 : BitVec 32 := Scalar.addi v554 v555
  v556.toNat
def k0_dev20 (d0 : Dev nD) : Nat :=
  let c0_i32_481 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_480 : BitVec 32 := 2#32
  let v563 : BitVec 32 := Scalar.muli v6 c2_i32_480
  let v564 : BitVec 32 := Scalar.addi c0_i32_481 v563
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_482 : BitVec 32 := 1#32
  let v565 : BitVec 32 := Scalar.muli v5 c1_i32_482
  let v566 : BitVec 32 := Scalar.addi v564 v565
  v566.toNat
def k0_dev21 (d0 : Dev nD) : Nat :=
  let c0_i32_514 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_513 : BitVec 32 := 2#32
  let v598 : BitVec 32 := Scalar.muli v2 c2_i32_513
  let v599 : BitVec 32 := Scalar.addi c0_i32_514 v598
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_515 : BitVec 32 := 1#32
  let v600 : BitVec 32 := Scalar.muli v7 c1_i32_515
  let v601 : BitVec 32 := Scalar.addi v599 v600
  v601.toNat
def k0_dev22 (d0 : Dev nD) : Nat :=
  let c0_i32_521 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_520 : BitVec 32 := 2#32
  let v608 : BitVec 32 := Scalar.muli v6 c2_i32_520
  let v609 : BitVec 32 := Scalar.addi c0_i32_521 v608
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_522 : BitVec 32 := 1#32
  let v610 : BitVec 32 := Scalar.muli v5 c1_i32_522
  let v611 : BitVec 32 := Scalar.addi v609 v610
  v611.toNat
def k0_dev23 (d0 : Dev nD) : Nat :=
  let c0_i32_554 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_553 : BitVec 32 := 2#32
  let v643 : BitVec 32 := Scalar.muli v2 c2_i32_553
  let v644 : BitVec 32 := Scalar.addi c0_i32_554 v643
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_555 : BitVec 32 := 1#32
  let v645 : BitVec 32 := Scalar.muli v7 c1_i32_555
  let v646 : BitVec 32 := Scalar.addi v644 v645
  v646.toNat
def k0_dev24 (d0 : Dev nD) : Nat :=
  let c0_i32_561 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_560 : BitVec 32 := 2#32
  let v653 : BitVec 32 := Scalar.muli v6 c2_i32_560
  let v654 : BitVec 32 := Scalar.addi c0_i32_561 v653
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_562 : BitVec 32 := 1#32
  let v655 : BitVec 32 := Scalar.muli v5 c1_i32_562
  let v656 : BitVec 32 := Scalar.addi v654 v655
  v656.toNat
def k0_dev25 (d0 : Dev nD) : Nat :=
  let c0_i32_594 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_593 : BitVec 32 := 2#32
  let v688 : BitVec 32 := Scalar.muli v2 c2_i32_593
  let v689 : BitVec 32 := Scalar.addi c0_i32_594 v688
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_595 : BitVec 32 := 1#32
  let v690 : BitVec 32 := Scalar.muli v7 c1_i32_595
  let v691 : BitVec 32 := Scalar.addi v689 v690
  v691.toNat
def k0_dev26 (d0 : Dev nD) : Nat :=
  let c0_i32_601 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_600 : BitVec 32 := 2#32
  let v698 : BitVec 32 := Scalar.muli v6 c2_i32_600
  let v699 : BitVec 32 := Scalar.addi c0_i32_601 v698
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_602 : BitVec 32 := 1#32
  let v700 : BitVec 32 := Scalar.muli v5 c1_i32_602
  let v701 : BitVec 32 := Scalar.addi v699 v700
  v701.toNat
def k0_dev27 (d0 : Dev nD) : Nat :=
  let c0_i32_634 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_633 : BitVec 32 := 2#32
  let v733 : BitVec 32 := Scalar.muli v2 c2_i32_633
  let v734 : BitVec 32 := Scalar.addi c0_i32_634 v733
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_635 : BitVec 32 := 1#32
  let v735 : BitVec 32 := Scalar.muli v7 c1_i32_635
  let v736 : BitVec 32 := Scalar.addi v734 v735
  v736.toNat
def k0_dev28 (d0 : Dev nD) : Nat :=
  let c0_i32_641 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_640 : BitVec 32 := 2#32
  let v743 : BitVec 32 := Scalar.muli v6 c2_i32_640
  let v744 : BitVec 32 := Scalar.addi c0_i32_641 v743
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_642 : BitVec 32 := 1#32
  let v745 : BitVec 32 := Scalar.muli v5 c1_i32_642
  let v746 : BitVec 32 := Scalar.addi v744 v745
  v746.toNat
def k0_dev29 (d0 : Dev nD) : Nat :=
  let c0_i32_674 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_673 : BitVec 32 := 2#32
  let v778 : BitVec 32 := Scalar.muli v2 c2_i32_673
  let v779 : BitVec 32 := Scalar.addi c0_i32_674 v778
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_675 : BitVec 32 := 1#32
  let v780 : BitVec 32 := Scalar.muli v7 c1_i32_675
  let v781 : BitVec 32 := Scalar.addi v779 v780
  v781.toNat
def k0_dev30 (d0 : Dev nD) : Nat :=
  let c0_i32_681 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_680 : BitVec 32 := 2#32
  let v788 : BitVec 32 := Scalar.muli v6 c2_i32_680
  let v789 : BitVec 32 := Scalar.addi c0_i32_681 v788
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_682 : BitVec 32 := 1#32
  let v790 : BitVec 32 := Scalar.muli v5 c1_i32_682
  let v791 : BitVec 32 := Scalar.addi v789 v790
  v791.toNat
def k0_dev31 (d0 : Dev nD) : Nat :=
  let c0_i32_714 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_713 : BitVec 32 := 2#32
  let v823 : BitVec 32 := Scalar.muli v2 c2_i32_713
  let v824 : BitVec 32 := Scalar.addi c0_i32_714 v823
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_715 : BitVec 32 := 1#32
  let v825 : BitVec 32 := Scalar.muli v7 c1_i32_715
  let v826 : BitVec 32 := Scalar.addi v824 v825
  v826.toNat
def k0_dev32 (d0 : Dev nD) : Nat :=
  let c0_i32_721 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_720 : BitVec 32 := 2#32
  let v833 : BitVec 32 := Scalar.muli v6 c2_i32_720
  let v834 : BitVec 32 := Scalar.addi c0_i32_721 v833
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_722 : BitVec 32 := 1#32
  let v835 : BitVec 32 := Scalar.muli v5 c1_i32_722
  let v836 : BitVec 32 := Scalar.addi v834 v835
  v836.toNat
def k0_dev33 (d0 : Dev nD) : Nat :=
  let c0_i32_754 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_753 : BitVec 32 := 2#32
  let v868 : BitVec 32 := Scalar.muli v2 c2_i32_753
  let v869 : BitVec 32 := Scalar.addi c0_i32_754 v868
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_755 : BitVec 32 := 1#32
  let v870 : BitVec 32 := Scalar.muli v7 c1_i32_755
  let v871 : BitVec 32 := Scalar.addi v869 v870
  v871.toNat
def k0_dev34 (d0 : Dev nD) : Nat :=
  let c0_i32_761 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_760 : BitVec 32 := 2#32
  let v878 : BitVec 32 := Scalar.muli v6 c2_i32_760
  let v879 : BitVec 32 := Scalar.addi c0_i32_761 v878
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_762 : BitVec 32 := 1#32
  let v880 : BitVec 32 := Scalar.muli v5 c1_i32_762
  let v881 : BitVec 32 := Scalar.addi v879 v880
  v881.toNat
def k0_dev35 (d0 : Dev nD) : Nat :=
  let c0_i32_794 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_793 : BitVec 32 := 2#32
  let v913 : BitVec 32 := Scalar.muli v2 c2_i32_793
  let v914 : BitVec 32 := Scalar.addi c0_i32_794 v913
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_795 : BitVec 32 := 1#32
  let v915 : BitVec 32 := Scalar.muli v7 c1_i32_795
  let v916 : BitVec 32 := Scalar.addi v914 v915
  v916.toNat
def k0_dev36 (d0 : Dev nD) : Nat :=
  let c0_i32_801 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_800 : BitVec 32 := 2#32
  let v923 : BitVec 32 := Scalar.muli v6 c2_i32_800
  let v924 : BitVec 32 := Scalar.addi c0_i32_801 v923
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_802 : BitVec 32 := 1#32
  let v925 : BitVec 32 := Scalar.muli v5 c1_i32_802
  let v926 : BitVec 32 := Scalar.addi v924 v925
  v926.toNat
def k0_dev37 (d0 : Dev nD) : Nat :=
  let c0_i32_834 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_833 : BitVec 32 := 2#32
  let v958 : BitVec 32 := Scalar.muli v2 c2_i32_833
  let v959 : BitVec 32 := Scalar.addi c0_i32_834 v958
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_835 : BitVec 32 := 1#32
  let v960 : BitVec 32 := Scalar.muli v7 c1_i32_835
  let v961 : BitVec 32 := Scalar.addi v959 v960
  v961.toNat
def k0_dev38 (d0 : Dev nD) : Nat :=
  let c0_i32_841 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_840 : BitVec 32 := 2#32
  let v968 : BitVec 32 := Scalar.muli v6 c2_i32_840
  let v969 : BitVec 32 := Scalar.addi c0_i32_841 v968
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_842 : BitVec 32 := 1#32
  let v970 : BitVec 32 := Scalar.muli v5 c1_i32_842
  let v971 : BitVec 32 := Scalar.addi v969 v970
  v971.toNat
def k0_dev39 (d0 : Dev nD) : Nat :=
  let c0_i32_874 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_873 : BitVec 32 := 2#32
  let v1003 : BitVec 32 := Scalar.muli v2 c2_i32_873
  let v1004 : BitVec 32 := Scalar.addi c0_i32_874 v1003
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_875 : BitVec 32 := 1#32
  let v1005 : BitVec 32 := Scalar.muli v7 c1_i32_875
  let v1006 : BitVec 32 := Scalar.addi v1004 v1005
  v1006.toNat
def k0_dev40 (d0 : Dev nD) : Nat :=
  let c0_i32_881 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_880 : BitVec 32 := 2#32
  let v1013 : BitVec 32 := Scalar.muli v6 c2_i32_880
  let v1014 : BitVec 32 := Scalar.addi c0_i32_881 v1013
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_882 : BitVec 32 := 1#32
  let v1015 : BitVec 32 := Scalar.muli v5 c1_i32_882
  let v1016 : BitVec 32 := Scalar.addi v1014 v1015
  v1016.toNat
def k0_dev41 (d0 : Dev nD) : Nat :=
  let c0_i32_914 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_913 : BitVec 32 := 2#32
  let v1048 : BitVec 32 := Scalar.muli v2 c2_i32_913
  let v1049 : BitVec 32 := Scalar.addi c0_i32_914 v1048
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_915 : BitVec 32 := 1#32
  let v1050 : BitVec 32 := Scalar.muli v7 c1_i32_915
  let v1051 : BitVec 32 := Scalar.addi v1049 v1050
  v1051.toNat
def k0_dev42 (d0 : Dev nD) : Nat :=
  let c0_i32_921 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_920 : BitVec 32 := 2#32
  let v1058 : BitVec 32 := Scalar.muli v6 c2_i32_920
  let v1059 : BitVec 32 := Scalar.addi c0_i32_921 v1058
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_922 : BitVec 32 := 1#32
  let v1060 : BitVec 32 := Scalar.muli v5 c1_i32_922
  let v1061 : BitVec 32 := Scalar.addi v1059 v1060
  v1061.toNat
def k0_dev43 (d0 : Dev nD) : Nat :=
  let c0_i32_954 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_953 : BitVec 32 := 2#32
  let v1093 : BitVec 32 := Scalar.muli v2 c2_i32_953
  let v1094 : BitVec 32 := Scalar.addi c0_i32_954 v1093
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_955 : BitVec 32 := 1#32
  let v1095 : BitVec 32 := Scalar.muli v7 c1_i32_955
  let v1096 : BitVec 32 := Scalar.addi v1094 v1095
  v1096.toNat
def k0_dev44 (d0 : Dev nD) : Nat :=
  let c0_i32_961 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_960 : BitVec 32 := 2#32
  let v1103 : BitVec 32 := Scalar.muli v6 c2_i32_960
  let v1104 : BitVec 32 := Scalar.addi c0_i32_961 v1103
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_962 : BitVec 32 := 1#32
  let v1105 : BitVec 32 := Scalar.muli v5 c1_i32_962
  let v1106 : BitVec 32 := Scalar.addi v1104 v1105
  v1106.toNat
def k0_dev45 (d0 : Dev nD) : Nat :=
  let c0_i32_994 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_993 : BitVec 32 := 2#32
  let v1138 : BitVec 32 := Scalar.muli v2 c2_i32_993
  let v1139 : BitVec 32 := Scalar.addi c0_i32_994 v1138
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_995 : BitVec 32 := 1#32
  let v1140 : BitVec 32 := Scalar.muli v7 c1_i32_995
  let v1141 : BitVec 32 := Scalar.addi v1139 v1140
  v1141.toNat
def k0_dev46 (d0 : Dev nD) : Nat :=
  let c0_i32_1001 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1000 : BitVec 32 := 2#32
  let v1148 : BitVec 32 := Scalar.muli v6 c2_i32_1000
  let v1149 : BitVec 32 := Scalar.addi c0_i32_1001 v1148
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1002 : BitVec 32 := 1#32
  let v1150 : BitVec 32 := Scalar.muli v5 c1_i32_1002
  let v1151 : BitVec 32 := Scalar.addi v1149 v1150
  v1151.toNat
def k0_dev47 (d0 : Dev nD) : Nat :=
  let c0_i32_1034 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1033 : BitVec 32 := 2#32
  let v1183 : BitVec 32 := Scalar.muli v2 c2_i32_1033
  let v1184 : BitVec 32 := Scalar.addi c0_i32_1034 v1183
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1035 : BitVec 32 := 1#32
  let v1185 : BitVec 32 := Scalar.muli v7 c1_i32_1035
  let v1186 : BitVec 32 := Scalar.addi v1184 v1185
  v1186.toNat
def k0_dev48 (d0 : Dev nD) : Nat :=
  let c0_i32_1041 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1040 : BitVec 32 := 2#32
  let v1193 : BitVec 32 := Scalar.muli v6 c2_i32_1040
  let v1194 : BitVec 32 := Scalar.addi c0_i32_1041 v1193
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1042 : BitVec 32 := 1#32
  let v1195 : BitVec 32 := Scalar.muli v5 c1_i32_1042
  let v1196 : BitVec 32 := Scalar.addi v1194 v1195
  v1196.toNat
def k0_dev49 (d0 : Dev nD) : Nat :=
  let c0_i32_1074 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1073 : BitVec 32 := 2#32
  let v1228 : BitVec 32 := Scalar.muli v2 c2_i32_1073
  let v1229 : BitVec 32 := Scalar.addi c0_i32_1074 v1228
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1075 : BitVec 32 := 1#32
  let v1230 : BitVec 32 := Scalar.muli v7 c1_i32_1075
  let v1231 : BitVec 32 := Scalar.addi v1229 v1230
  v1231.toNat
def k0_dev50 (d0 : Dev nD) : Nat :=
  let c0_i32_1081 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_1080 : BitVec 32 := 2#32
  let v1238 : BitVec 32 := Scalar.muli v6 c2_i32_1080
  let v1239 : BitVec 32 := Scalar.addi c0_i32_1081 v1238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1082 : BitVec 32 := 1#32
  let v1240 : BitVec 32 := Scalar.muli v5 c1_i32_1082
  let v1241 : BitVec 32 := Scalar.addi v1239 v1240
  v1241.toNat
def k0_off4 (d0 : Dev nD) (c0_i32_1099 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c1024_i32_4 : BitVec 32 := 1024#32
  let v9 : BitVec 32 := Scalar.muli v6 c1024_i32_4
  let v1260 : BitVec 32 := Scalar.addi v9 c0_i32_1099
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_5 : BitVec 32 := 1024#32
  let v10 : BitVec 32 := Scalar.muli v5 c1024_i32_5
  ![v1260.toNat, v10.toNat]
def k0_dev51 (d0 : Dev nD) : Nat :=
  let c0_i32_1103 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1102 : BitVec 32 := 2#32
  let v1261 : BitVec 32 := Scalar.muli v2 c2_i32_1102
  let v1262 : BitVec 32 := Scalar.addi c0_i32_1103 v1261
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1104 : BitVec 32 := 1#32
  let v1263 : BitVec 32 := Scalar.muli v7 c1_i32_1104
  let v1264 : BitVec 32 := Scalar.addi v1262 v1263
  v1264.toNat
def k0_dev52 (d0 : Dev nD) : Nat :=
  let c0_i32_1123 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1122 : BitVec 32 := 2#32
  let v1284 : BitVec 32 := Scalar.muli v2 c2_i32_1122
  let v1285 : BitVec 32 := Scalar.addi c0_i32_1123 v1284
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1124 : BitVec 32 := 1#32
  let v1286 : BitVec 32 := Scalar.muli v7 c1_i32_1124
  let v1287 : BitVec 32 := Scalar.addi v1285 v1286
  v1287.toNat
def k0_dev53 (d0 : Dev nD) : Nat :=
  let c0_i32_1143 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1142 : BitVec 32 := 2#32
  let v1307 : BitVec 32 := Scalar.muli v2 c2_i32_1142
  let v1308 : BitVec 32 := Scalar.addi c0_i32_1143 v1307
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1144 : BitVec 32 := 1#32
  let v1309 : BitVec 32 := Scalar.muli v7 c1_i32_1144
  let v1310 : BitVec 32 := Scalar.addi v1308 v1309
  v1310.toNat
def k0_dev54 (d0 : Dev nD) : Nat :=
  let c0_i32_1163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1162 : BitVec 32 := 2#32
  let v1330 : BitVec 32 := Scalar.muli v2 c2_i32_1162
  let v1331 : BitVec 32 := Scalar.addi c0_i32_1163 v1330
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1164 : BitVec 32 := 1#32
  let v1332 : BitVec 32 := Scalar.muli v7 c1_i32_1164
  let v1333 : BitVec 32 := Scalar.addi v1331 v1332
  v1333.toNat
def k0_dev55 (d0 : Dev nD) : Nat :=
  let c0_i32_1183 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1182 : BitVec 32 := 2#32
  let v1353 : BitVec 32 := Scalar.muli v2 c2_i32_1182
  let v1354 : BitVec 32 := Scalar.addi c0_i32_1183 v1353
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1184 : BitVec 32 := 1#32
  let v1355 : BitVec 32 := Scalar.muli v7 c1_i32_1184
  let v1356 : BitVec 32 := Scalar.addi v1354 v1355
  v1356.toNat
def k0_dev56 (d0 : Dev nD) : Nat :=
  let c0_i32_1203 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1202 : BitVec 32 := 2#32
  let v1376 : BitVec 32 := Scalar.muli v2 c2_i32_1202
  let v1377 : BitVec 32 := Scalar.addi c0_i32_1203 v1376
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1204 : BitVec 32 := 1#32
  let v1378 : BitVec 32 := Scalar.muli v7 c1_i32_1204
  let v1379 : BitVec 32 := Scalar.addi v1377 v1378
  v1379.toNat
def k0_dev57 (d0 : Dev nD) : Nat :=
  let c0_i32_1223 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1222 : BitVec 32 := 2#32
  let v1399 : BitVec 32 := Scalar.muli v2 c2_i32_1222
  let v1400 : BitVec 32 := Scalar.addi c0_i32_1223 v1399
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1224 : BitVec 32 := 1#32
  let v1401 : BitVec 32 := Scalar.muli v7 c1_i32_1224
  let v1402 : BitVec 32 := Scalar.addi v1400 v1401
  v1402.toNat
def k0_dev58 (d0 : Dev nD) : Nat :=
  let c0_i32_1243 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1242 : BitVec 32 := 2#32
  let v1422 : BitVec 32 := Scalar.muli v2 c2_i32_1242
  let v1423 : BitVec 32 := Scalar.addi c0_i32_1243 v1422
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1244 : BitVec 32 := 1#32
  let v1424 : BitVec 32 := Scalar.muli v7 c1_i32_1244
  let v1425 : BitVec 32 := Scalar.addi v1423 v1424
  v1425.toNat
def k0_dev59 (d0 : Dev nD) : Nat :=
  let c0_i32_1263 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1262 : BitVec 32 := 2#32
  let v1445 : BitVec 32 := Scalar.muli v2 c2_i32_1262
  let v1446 : BitVec 32 := Scalar.addi c0_i32_1263 v1445
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1264 : BitVec 32 := 1#32
  let v1447 : BitVec 32 := Scalar.muli v7 c1_i32_1264
  let v1448 : BitVec 32 := Scalar.addi v1446 v1447
  v1448.toNat
def k0_dev60 (d0 : Dev nD) : Nat :=
  let c0_i32_1283 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1282 : BitVec 32 := 2#32
  let v1468 : BitVec 32 := Scalar.muli v2 c2_i32_1282
  let v1469 : BitVec 32 := Scalar.addi c0_i32_1283 v1468
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1284 : BitVec 32 := 1#32
  let v1470 : BitVec 32 := Scalar.muli v7 c1_i32_1284
  let v1471 : BitVec 32 := Scalar.addi v1469 v1470
  v1471.toNat
def k0_dev61 (d0 : Dev nD) : Nat :=
  let c0_i32_1303 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1302 : BitVec 32 := 2#32
  let v1491 : BitVec 32 := Scalar.muli v2 c2_i32_1302
  let v1492 : BitVec 32 := Scalar.addi c0_i32_1303 v1491
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1304 : BitVec 32 := 1#32
  let v1493 : BitVec 32 := Scalar.muli v7 c1_i32_1304
  let v1494 : BitVec 32 := Scalar.addi v1492 v1493
  v1494.toNat
def k0_dev62 (d0 : Dev nD) : Nat :=
  let c0_i32_1323 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1322 : BitVec 32 := 2#32
  let v1514 : BitVec 32 := Scalar.muli v2 c2_i32_1322
  let v1515 : BitVec 32 := Scalar.addi c0_i32_1323 v1514
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1324 : BitVec 32 := 1#32
  let v1516 : BitVec 32 := Scalar.muli v7 c1_i32_1324
  let v1517 : BitVec 32 := Scalar.addi v1515 v1516
  v1517.toNat
def k0_dev63 (d0 : Dev nD) : Nat :=
  let c0_i32_1343 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1342 : BitVec 32 := 2#32
  let v1537 : BitVec 32 := Scalar.muli v2 c2_i32_1342
  let v1538 : BitVec 32 := Scalar.addi c0_i32_1343 v1537
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1344 : BitVec 32 := 1#32
  let v1539 : BitVec 32 := Scalar.muli v7 c1_i32_1344
  let v1540 : BitVec 32 := Scalar.addi v1538 v1539
  v1540.toNat
def k0_dev64 (d0 : Dev nD) : Nat :=
  let c0_i32_1363 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1362 : BitVec 32 := 2#32
  let v1560 : BitVec 32 := Scalar.muli v2 c2_i32_1362
  let v1561 : BitVec 32 := Scalar.addi c0_i32_1363 v1560
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1364 : BitVec 32 := 1#32
  let v1562 : BitVec 32 := Scalar.muli v7 c1_i32_1364
  let v1563 : BitVec 32 := Scalar.addi v1561 v1562
  v1563.toNat
def k0_dev65 (d0 : Dev nD) : Nat :=
  let c0_i32_1383 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1382 : BitVec 32 := 2#32
  let v1583 : BitVec 32 := Scalar.muli v2 c2_i32_1382
  let v1584 : BitVec 32 := Scalar.addi c0_i32_1383 v1583
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1384 : BitVec 32 := 1#32
  let v1585 : BitVec 32 := Scalar.muli v7 c1_i32_1384
  let v1586 : BitVec 32 := Scalar.addi v1584 v1585
  v1586.toNat
def k0_dev66 (d0 : Dev nD) : Nat :=
  let c0_i32_1403 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_1402 : BitVec 32 := 2#32
  let v1606 : BitVec 32 := Scalar.muli v2 c2_i32_1402
  let v1607 : BitVec 32 := Scalar.addi c0_i32_1403 v1606
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_1404 : BitVec 32 := 1#32
  let v1608 : BitVec 32 := Scalar.muli v7 c1_i32_1404
  let v1609 : BitVec 32 := Scalar.addi v1607 v1608
  v1609.toNat
-- ==== ReferenceIdeal.lean ====
abbrev S2x2048x2048 : Shape := ⟨3, ![2, 2048, 2048]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S2x2048x2048, .bf16⟩
  | .hbm, ⟨2, _⟩ => ⟨S2x2048x2048, .f32⟩
  | .hbm, ⟨3, _⟩ => ⟨S_, .f32⟩
  | .hbm, ⟨4, _⟩ => ⟨S2048x2048, .f32⟩
  | .hbm, ⟨5, _⟩ => ⟨S2048x2048, .bf16⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Body.lean ====
module

public import proofs.«01_k».proof.Proof.Gen.KernelIdeal.Frame

@[expose] public section

set_option maxRecDepth 16384

/-! # The kernel's body, phase by phase

The printed body is one straight line of several hundred operations.  Here it is written as its six
phases, each a pass over the sixteen chunks of 64 rows, and the two are shown to be the same program. -/

noncomputable section

namespace Cert.KernelIdeal.Own

open Idealize.ShloMosaic Idealize.ShloMosaic.TcCoe Idealize.SL.Sem
open Cert.KernelIdeal.Gen

variable {F : FTy → Type} [FloatOps F]

/-- A stretch of the body: a program of one TensorCore that returns nothing. -/
abbrev Pr (F : FTy → Type) [FloatOps F] : Type 1 := Prog (TpuEff nD τ sig (Elt F) Λ₀ .tc) PUnit

/-! ## Views of one chunk -/

/-- Chunk `k` of a scratch buffer stays inside it. -/
theorem rows_fit : ∀ (k : Fin 16) (a : Fin 2), (![64 * k.val, 0] : Fin 2 → Nat) a + S64x1024.size a ≤ S1024x1024.size a := by decide
/-- Semaphore `k` of an array of sixteen is one of them. -/
theorem cell_fits : ∀ (k : Fin 16) (a : Fin 1), (![k.val] : Fin 1 → Nat) a + S1.size a ≤ S16.size a := by decide

/-- The rectangle of chunk `k` in a scratch buffer. -/
abbrev rowsRect (k : Fin 16) : Rect S1024x1024 := Rect.unit (s := S1024x1024) ![64 * k.val, 0] S64x1024.size (rows_fit k)

/-- The rows of a chunk are whole packed words of bfloat16. -/
theorem rows_packed : ∀ k : Fin 16, (rowsRect k).PackedRows (EltTy.packing .bf16) := by decide
/-- The rows of a chunk cover whole words of bfloat16. -/
theorem rows_words : ∀ k : Fin 16, (rowsRect k).WholeWords (EltTy.packing .bf16) := by decide

/-- The device's block of `x`, the result, and the six scratch buffers. -/
abbrev xM : Memref sig .tc .hbm S1x2048x1024 .f32 := Memref.whole main_arg0
abbrev outM : Memref sig .tc .hbm S2048x2048 .bf16 := Memref.whole main_v1
abbrev othM : Memref sig .tc .vmem S1024x1024 .f32 := Memref.whole cc0_scratch0
abbrev meM : Memref sig .tc .vmem S1024x1024 .f32 := Memref.whole cc0_scratch1
abbrev sndM : Memref sig .tc .vmem S1024x1024 .bf16 := Memref.whole cc0_scratch2
abbrev rcvM : Memref sig .tc .vmem S1024x1024 .bf16 := Memref.whole cc0_scratch3
abbrev tilM : Memref sig .tc .vmem S1024x1024 .bf16 := Memref.whole cc0_scratch4
abbrev oxM : Memref sig .tc .vmem S1024x1024 .bf16 := Memref.whole cc0_scratch5

/-- Chunk `k` of a scratch buffer. -/
abbrev chunk {e : EltTy} (M : Memref sig .tc .vmem S1024x1024 e) (k : Fin 16) : Memref sig .tc .vmem S64x1024 e :=
  M.slice (rowsRect k) (fun _ => rfl)

/-- The rows of chunk `k` of the half the device gives away, and of the half it keeps, in its block of `x`. -/
abbrev xOth (c : Dev nD) (k : Fin 16) : Memref sig .tc .hbm S64x1024 .f32 :=
  (xM.slice (Rect.unit (s := S1x2048x1024) (k0_off1 c (BitVec.ofNat 32 (64 * k.val))) S1x64x1024.size (k0_off1_inb c k)) (fun _ => rfl)).squeeze S64x1024 squeezes_S1x64x1024_S64x1024
abbrev xMe (c : Dev nD) (k : Fin 16) : Memref sig .tc .hbm S64x1024 .f32 :=
  (xM.slice (Rect.unit (s := S1x2048x1024) (k0_off2 c (BitVec.ofNat 32 (64 * k.val))) S1x64x1024.size (k0_off2_inb c k)) (fun _ => rfl)).squeeze S64x1024 squeezes_S1x64x1024_S64x1024

/-- Chunk `k` of the result's tile the device `c` computes, and of the tile its x-neighbour computes. -/
abbrev outMe (c : Dev nD) (k : Fin 16) : Memref sig .tc .hbm S64x1024 .bf16 :=
  outM.slice (Rect.unit (s := S2048x2048) (k0_off3 c (BitVec.ofNat 32 (64 * k.val))) S64x1024.size (k0_off3_inb c k)) (fun _ => rfl)
abbrev outOx (c : Dev nD) (k : Fin 16) : Memref sig .tc .hbm S64x1024 .bf16 :=
  outM.slice (Rect.unit (s := S2048x2048) (k0_off4 c (BitVec.ofNat 32 (64 * k.val))) S64x1024.size (k0_off4_inb c k)) (fun _ => rfl)

/-- Semaphore `k` of an array. -/
abbrev cellAt (A : DmaSems sig S16) (k : Fin 16) : DmaSem sig :=
  ((A.slice (Rect.unit (s := S16) ![k.val] S1.size (cell_fits k))).squeeze S_ squeezes_S1_S_).sem

/-- The barrier's semaphore. -/
abbrev barS : Sem sig := (SemArray.scalar (sig.barrier 0 rfl) : Sems sig S_).sem

/-- The neighbour of `c` along x, and along y. -/
abbrev xp (c : Dev nD) : Dev nD := ⟨k0_dev1 c, k0_dev1_lt c⟩
abbrev yp (c : Dev nD) : Dev nD := ⟨k0_dev2 c, k0_dev2_lt c⟩

/-! ## The stretches of one chunk -/

/-- A chunk of a bfloat16 scratch buffer covers whole words, as a transfer asks. -/
theorem whole_words {e : EltTy} (h : e = .bf16) (M : Memref sig .tc .vmem S1024x1024 e) (hM : M.IsWhole) (k : Fin 16) : (chunk M k).view.WordExact := by
  subst h; exact hM.wordExact_slice rfl _ (rows_words k)
/-- So does a chunk of a float32 scratch buffer. -/
theorem whole_words32 (M : Memref sig .tc .vmem S1024x1024 .f32) (k : Fin 16) : (chunk M k).view.WordExact := View.wordExact_bits rfl
/-- So does a chunk of the half of `x` that the device gives away. -/
theorem xOth_words (c : Dev nD) (k : Fin 16) : (xOth c k).view.WordExact := (View.wordExact_bits rfl).reshape _ _
/-- So does a chunk of the half of `x` that it keeps. -/
theorem xMe_words (c : Dev nD) (k : Fin 16) : (xMe c k).view.WordExact := (View.wordExact_bits rfl).reshape _ _
/-- So does a chunk of the device's own tile of the result. -/
theorem outMe_words (c : Dev nD) (k : Fin 16) : (outMe c k).view.WordExact := (Memref.isWhole_whole _).wordExact_slice rfl _ (k0_off3_wordsbf16 c k)
/-- So does a chunk of its x-neighbour's tile of the result. -/
theorem outOx_words (c : Dev nD) (k : Fin 16) : (outOx c k).view.WordExact := (Memref.isWhole_whole _).wordExact_slice rfl _ (k0_off4_wordsbf16 c k)

/-- Rounding a chunk to bfloat16. -/
def narrow (v : Vec F S64x1024 .f32) : FVec F S64x1024 .bf16 := shapeCast S64x1024 (truncf .bf16 v bitsLt_bf16_f32) shapeCasts_S64x1024_S64x1024
/-- A chunk rounded, plus the chunk received. -/
def combine (v : Vec F S64x1024 .f32) (w : Vec F S64x1024 .bf16) : FVec F S64x1024 .bf16 :=
  shapeCast S64x1024 (addf (truncf .bf16 v bitsLt_bf16_f32) w) shapeCasts_S64x1024_S64x1024

/-- Load chunk `k` of a buffer. -/
abbrev loadC {e : EltTy} (M : Memref sig .tc .vmem S1024x1024 e) (k : Fin 16) (r : Vec F S64x1024 e → Pr F) : Pr F :=
  Prog.op (.load M (rowsRect k).toLoadRect (View.loadsAt_vmem h_S64x1024)) r
/-- Store chunk `k` of a buffer of bfloat16. -/
abbrev storeC (M : Memref sig .tc .vmem S1024x1024 .bf16) (hM : M.IsWhole) (k : Fin 16) (v : FVec F S64x1024 .bf16) (r : Pr F) : Pr F :=
  Prog.op (.store M (rowsRect k) v Finset.univ (View.stores_vmem h_S64x1024 (hM.storeExact_slice rfl _ (rows_packed k)) (fun _ => rfl)) (.inl rfl)) fun _ => r

/-- Start the load of chunk `k` of the half given away. -/
def startOth (c : Dev nD) (k : Fin 16) (r : Pr F) : Pr F :=
  Prog.op (.enqueueDma (xOth c k) (.here (chunk othM k)) (.dma (cellAt cc0_scratch6 k)) (xOth_words c k) (whole_words32 _ k) ⟨Or.inl rfl, trivial⟩) fun _ => r
/-- Start the load of chunk `k` of the half kept. -/
def startMe (c : Dev nD) (k : Fin 16) (r : Pr F) : Pr F :=
  Prog.op (.enqueueDma (xMe c k) (.here (chunk meM k)) (.dma (cellAt cc0_scratch7 k)) (xMe_words c k) (whole_words32 _ k) ⟨Or.inl rfl, trivial⟩) fun _ => r
/-- Tell both neighbours that this device is ready, and wait until both are. -/
def meet (c : Dev nD) (r : Pr F) : Pr F :=
  Prog.op (.semSignal (xp c : Thread nD τ) barS (1#32).toInt) fun _ =>
  Prog.op (.semSignal (yp c : Thread nD τ) barS (1#32).toInt) fun _ =>
  Prog.op (.semWait barS (2#32).toInt) fun _ => r
/-- Round chunk `k` of the half given away and send it to the x-neighbour. -/
def give (c : Dev nD) (k : Fin 16) (r : Pr F) : Pr F :=
  Prog.op (.waitDma2 (cellAt cc0_scratch6 k) (xOth c k) (chunk othM k) (xOth_words c k) (whole_words32 _ k)) fun _ =>
  loadC othM k fun v => loadC sndM k fun _ => storeC sndM (Memref.isWhole_whole _) k (narrow v) <|
  Prog.op (.enqueueDma (chunk sndM k) (.remote (Dev.tc (xp c)) (chunk rcvM k) (.dma (cellAt cc0_scratch10 k))) (.dma (cellAt cc0_scratch11 k))
    (whole_words rfl _ (Memref.isWhole_whole _) k) (whole_words rfl _ (Memref.isWhole_whole _) k) ⟨⟨rfl, Or.inl rfl⟩, trivial⟩) fun _ => r
/-- Add chunk `k` received to chunk `k` kept, and send the sum to both neighbours and to the own result. -/
def reduce (c : Dev nD) (k : Fin 16) (r : Pr F) : Pr F :=
  Prog.op (.waitDma2 (cellAt cc0_scratch11 k) (chunk sndM k) (chunk rcvM k) (whole_words rfl _ (Memref.isWhole_whole _) k) (whole_words rfl _ (Memref.isWhole_whole _) k)) fun _ =>
  Prog.op (.waitDma2 (cellAt cc0_scratch7 k) (xMe c k) (chunk meM k) (xMe_words c k) (whole_words32 _ k)) fun _ =>
  loadC meM k fun v => loadC rcvM k fun w => loadC tilM k fun _ => storeC tilM (Memref.isWhole_whole _) k (combine v w) <|
  Prog.op (.enqueueDma (chunk tilM k) (.remote (Dev.tc (yp c)) (outMe c k) (.dma (cellAt cc0_scratch12 k))) (.dma (cellAt cc0_scratch13 k))
    (whole_words rfl _ (Memref.isWhole_whole _) k) (outMe_words c k) ⟨⟨rfl, Or.inl rfl⟩, trivial⟩) fun _ =>
  Prog.op (.enqueueDma (chunk tilM k) (.remote (Dev.tc (xp c)) (chunk oxM k) (.dma (cellAt cc0_scratch14 k))) (.dma (cellAt cc0_scratch15 k))
    (whole_words rfl _ (Memref.isWhole_whole _) k) (whole_words rfl _ (Memref.isWhole_whole _) k) ⟨⟨rfl, Or.inl rfl⟩, trivial⟩) fun _ =>
  Prog.op (.enqueueDma (chunk tilM k) (.here (outMe c k)) (.dma (cellAt cc0_scratch8 k)) (whole_words rfl _ (Memref.isWhole_whole _) k) (outMe_words c k) ⟨Or.inl rfl, trivial⟩) fun _ => r
/-- Forward the x-neighbour's sum of chunk `k` to the y-neighbour and to the own result. -/
def forward (c : Dev nD) (k : Fin 16) (r : Pr F) : Pr F :=
  Prog.op (.waitDma2 (cellAt cc0_scratch15 k) (chunk tilM k) (chunk oxM k) (whole_words rfl _ (Memref.isWhole_whole _) k) (whole_words rfl _ (Memref.isWhole_whole _) k)) fun _ =>
  Prog.op (.enqueueDma (chunk oxM k) (.remote (Dev.tc (yp c)) (outOx c k) (.dma (cellAt cc0_scratch16 k))) (.dma (cellAt cc0_scratch17 k))
    (whole_words rfl _ (Memref.isWhole_whole _) k) (outOx_words c k) ⟨⟨rfl, Or.inl rfl⟩, trivial⟩) fun _ =>
  Prog.op (.enqueueDma (chunk oxM k) (.here (outOx c k)) (.dma (cellAt cc0_scratch9 k)) (whole_words rfl _ (Memref.isWhole_whole _) k) (outOx_words c k) ⟨Or.inl rfl, trivial⟩) fun _ => r
/-- Wait for everything of chunk `k` that is still in flight. -/
def settle (c : Dev nD) (k : Fin 16) (r : Pr F) : Pr F :=
  Prog.op (.waitDma2 (cellAt cc0_scratch10 k) (chunk rcvM k) (chunk sndM k) (whole_words rfl _ (Memref.isWhole_whole _) k) (whole_words rfl _ (Memref.isWhole_whole _) k)) fun _ =>
  Prog.op (.waitDma2 (cellAt cc0_scratch14 k) (chunk oxM k) (chunk tilM k) (whole_words rfl _ (Memref.isWhole_whole _) k) (whole_words rfl _ (Memref.isWhole_whole _) k)) fun _ =>
  Prog.op (.waitDma2 (cellAt cc0_scratch12 k) (outMe c k) (chunk tilM k) (outMe_words c k) (whole_words rfl _ (Memref.isWhole_whole _) k)) fun _ =>
  Prog.op (.waitDma2 (cellAt cc0_scratch13 k) (chunk tilM k) (outMe c k) (whole_words rfl _ (Memref.isWhole_whole _) k) (outMe_words c k)) fun _ =>
  Prog.op (.waitDma2 (cellAt cc0_scratch16 k) (outOx c k) (chunk oxM k) (outOx_words c k) (whole_words rfl _ (Memref.isWhole_whole _) k)) fun _ =>
  Prog.op (.waitDma2 (cellAt cc0_scratch17 k) (chunk oxM k) (outOx c k) (whole_words rfl _ (Memref.isWhole_whole _) k) (outOx_words c k)) fun _ =>
  Prog.op (.waitDma2 (cellAt cc0_scratch8 k) (chunk tilM k) (outMe c k) (whole_words rfl _ (Memref.isWhole_whole _) k) (outMe_words c k)) fun _ =>
  Prog.op (.waitDma2 (cellAt cc0_scratch9 k) (chunk oxM k) (outOx c k) (whole_words rfl _ (Memref.isWhole_whole _) k) (outOx_words c k)) fun _ => r

/-! ## The whole body -/

/-- One stretch for each chunk of a list, in order, then the rest. -/
def each (f : Fin 16 → Pr F → Pr F) : List (Fin 16) → Pr F → Pr F
  | [], r => r
  | k :: ks, r => f k (each f ks r)

/-- The sixteen chunks in the order every phase takes them. -/
def chunks : List (Fin 16) :=
  [⟨0, by decide⟩, ⟨1, by decide⟩, ⟨2, by decide⟩, ⟨3, by decide⟩, ⟨4, by decide⟩, ⟨5, by decide⟩, ⟨6, by decide⟩, ⟨7, by decide⟩,
   ⟨8, by decide⟩, ⟨9, by decide⟩, ⟨10, by decide⟩, ⟨11, by decide⟩, ⟨12, by decide⟩, ⟨13, by decide⟩, ⟨14, by decide⟩, ⟨15, by decide⟩]

/-- The body as its phases, on the device `c`. -/
def phases (c : Dev nD) : Pr F :=
  each (startOth c) chunks <| each (startMe c) chunks <| meet c <| each (give c) chunks <|
  each (reduce c) chunks <| each (forward c) chunks <| each (settle c) chunks <| .ret ⟨⟩

/-- The printed body is its phases, run on the device whose id it reads first. -/
theorem body_eq : Gen.bodyAt0 (F := F) t0_0 = .op .deviceId fun c => phases c := by
  chain_rfl

end Cert.KernelIdeal.Own

end
-- ==== Proof.Proto.lean ====
module

public import proofs.«01_k».proof.Proof.Body
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

set_option maxRecDepth 16384

/-! # The protocol

The semaphores by kind and chunk, what each chunk holds at each stage, and what every semaphore hands to the
device that waits on it.  There is one round: every DMA semaphore is waited on once, and so is the barrier. -/

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The neighbours -/

/-- The x-neighbour's x-neighbour is the device. -/
theorem xp_xp (c : Dev nD) : xp (xp c) = c := by
  apply Fin.ext; have h := c.isLt; have e : (xp c).val = _ := k0_dev1_eq c
  exact (k0_dev1_eq (xp c)).trans (by rw [e]; change c.val < 4 at h; omega)
/-- The y-neighbour's y-neighbour is the device. -/
theorem yp_yp (c : Dev nD) : yp (yp c) = c := by
  apply Fin.ext; have h := c.isLt; have e : (yp c).val = _ := k0_dev2_eq c
  exact (k0_dev2_eq (yp c)).trans (by rw [e]; change c.val < 4 at h; omega)
/-- The two neighbours are two devices. -/
theorem xp_ne_yp (c : Dev nD) : xp c ≠ yp c := by
  intro he; have h := c.isLt; have e := congrArg Fin.val he
  have e1 : (xp c).val = _ := k0_dev1_eq c
  have e2 : (yp c).val = _ := k0_dev2_eq c
  change c.val < 4 at h; omega

/-! ## The semaphores by kind and chunk -/

/-- The kinds, in the order of the kernel's semaphore arrays. -/
abbrev kLdOth : Fin 12 := 0
abbrev kLdMe : Fin 12 := 1
abbrev kStMe : Fin 12 := 2
abbrev kStOx : Fin 12 := 3
abbrev kRsS : Fin 12 := 4
abbrev kRsR : Fin 12 := 5
abbrev kAyS : Fin 12 := 6
abbrev kAyR : Fin 12 := 7
abbrev kAxS : Fin 12 := 8
abbrev kAxR : Fin 12 := 9
abbrev kFwS : Fin 12 := 10
abbrev kFwR : Fin 12 := 11

/-- The DMA semaphore of kind `a` and chunk `k`. -/
def sem (a : Fin 12) (k : Fin 16) : DmaSem sig := ⟨16 * a.val + k.val, by have := a.isLt; have := k.isLt; show _ < 192; omega⟩
/-- The kind of a DMA semaphore, and its chunk. -/
def kindOf (q : DmaSem sig) : Fin 12 := ⟨q.val / 16, by have : q.val < 192 := q.isLt; omega⟩
def rowOf (q : DmaSem sig) : Fin 16 := ⟨q.val % 16, Nat.mod_lt _ (by decide)⟩

/-- The kind of a semaphore given by its kind and chunk. -/
theorem kindOf_sem (a : Fin 12) (k : Fin 16) : kindOf (sem a k) = a := Fin.ext (by have := k.isLt; show (16 * a.val + k.val) / 16 = a.val; omega)
/-- Its chunk. -/
theorem rowOf_sem (a : Fin 12) (k : Fin 16) : rowOf (sem a k) = k := Fin.ext (by have := k.isLt; show (16 * a.val + k.val) % 16 = k.val; omega)
/-- A semaphore is the one of its kind and its chunk. -/
theorem sem_of (q : DmaSem sig) : sem (kindOf q) (rowOf q) = q := Fin.ext (by show 16 * (q.val / 16) + q.val % 16 = q.val; omega)

/-- The kernel's arrays of semaphores, in order: this one has the kind `kLdOth`. -/
theorem at6 : ∀ k, cellAt cc0_scratch6 k = sem kLdOth k := by decide
/-- This one has the kind `kLdMe`. -/
theorem at7 : ∀ k, cellAt cc0_scratch7 k = sem kLdMe k := by decide
/-- This one has the kind `kStMe`. -/
theorem at8 : ∀ k, cellAt cc0_scratch8 k = sem kStMe k := by decide
/-- This one has the kind `kStOx`. -/
theorem at9 : ∀ k, cellAt cc0_scratch9 k = sem kStOx k := by decide
/-- This one has the kind `kRsS`. -/
theorem at10 : ∀ k, cellAt cc0_scratch10 k = sem kRsS k := by decide
/-- This one has the kind `kRsR`. -/
theorem at11 : ∀ k, cellAt cc0_scratch11 k = sem kRsR k := by decide
/-- This one has the kind `kAyS`. -/
theorem at12 : ∀ k, cellAt cc0_scratch12 k = sem kAyS k := by decide
/-- This one has the kind `kAyR`. -/
theorem at13 : ∀ k, cellAt cc0_scratch13 k = sem kAyR k := by decide
/-- This one has the kind `kAxS`. -/
theorem at14 : ∀ k, cellAt cc0_scratch14 k = sem kAxS k := by decide
/-- This one has the kind `kAxR`. -/
theorem at15 : ∀ k, cellAt cc0_scratch15 k = sem kAxR k := by decide
/-- This one has the kind `kFwS`. -/
theorem at16 : ∀ k, cellAt cc0_scratch16 k = sem kFwS k := by decide
/-- This one has the kind `kFwR`. -/
theorem at17 : ∀ k, cellAt cc0_scratch17 k = sem kFwR k := by decide

abbrev cellG (c : Dev nD) (a : Fin 12) (k : Fin 16) : GSem nD τ sig := ((c : Thread nD τ), .dma (sem a k))
abbrev barCell (c : Dev nD) : GSem nD τ sig := ((c : Thread nD τ), .reg barS)

/-! ## What a transfer of one chunk counts for -/

/-- A chunk of `f32`, and a chunk of `bf16`. -/
abbrev N32 : ℕ := (chunk othM 0).view.dmaCredit
abbrev N16 : ℕ := (chunk sndM 0).view.dmaCredit
/-- What one transfer adds to a semaphore of kind `a`. -/
def credOf (a : Fin 12) : ℕ := if a.val < 2 then N32 else N16

/-- A transfer of a float32 chunk counts for something. -/
theorem N32_pos : 0 < N32 := View.dmaCredit_pos _ (by decide)
/-- So does one of a bfloat16 chunk. -/
theorem N16_pos : 0 < N16 := View.dmaCredit_pos _ (by decide)
/-- So does a transfer of any kind. -/
theorem credOf_pos (a : Fin 12) : 0 < credOf a := by unfold credOf; split; exacts [N32_pos, N16_pos]

/-! ## What the chunks hold -/

variable (m : (ℓ : Loc nD τ sig) → Buf (Elt F) ℓ)

/-- The device's block of `x`. -/
abbrev xAt (c : Dev nD) : Buf (Elt F) ((c : Thread nD τ).loc main_arg0) := m ((c : Thread nD τ).loc main_arg0)

/-- Chunk `k` of the half of its block that `c` gives away, and of the half it keeps. -/
def othV (c : Dev nD) (k : Fin 16) : Vec F S64x1024 .f32 := (xOth c k).view.read (Elt F) (xAt m c)
def meV (c : Dev nD) (k : Fin 16) : Vec F S64x1024 .f32 := (xMe c k).view.read (Elt F) (xAt m c)
/-- The chunk `c` sends: the one given away, rounded. -/
def sndV (c : Dev nD) (k : Fin 16) : FVec F S64x1024 .bf16 := narrow (othV m c k)
/-- The chunk of `c`'s tile of the sum: its own, rounded, plus the one its x-neighbour sent. -/
def tilV (c : Dev nD) (k : Fin 16) : FVec F S64x1024 .bf16 := combine (meV m c k) (sndV m (xp c) k)

/-! ## What the semaphores hand over -/

/-- A view of a device's memory, holding something. -/
def anyAt (c : Dev nD) {sp : Space} {s : Shape} {e : EltTy} (M : Memref sig .tc sp s e) : sProp 𝕄 :=
  iprop(∃ f, (M.view.loc (c : Thread nD τ) ↦[M.view.set]{fullShare} f))
/-- A view of a device's memory, holding `X`, at the share `q`. -/
abbrev has (c : Dev nD) {sp : Space} {s : Shape} {e : EltTy} (M : Memref sig .tc sp s e) (q : PosShare TreeShare) (X : s.Idx → Elt F e) : sProp 𝕄 :=
  owns (c : Thread nD τ) M q X

instance anyAt_storable (c : Dev nD) {sp : Space} {s : Shape} {e : EltTy} (M : Memref sig .tc sp s e) :
    BI.Storable (upEmb : UEmb _ 𝕄) (anyAt (F := F) c M) := by unfold anyAt; infer_instance

/-- What holds something in particular holds something. -/
theorem has_any (c : Dev nD) {sp : Space} {s : Shape} {e : EltTy} (M : Memref sig .tc sp s e) (X : s.Idx → Elt F e) :
    (has c M fullShare X : sProp 𝕄) ⊢ anyAt c M := by
  unfold has owns anyAt; iintro ⟨%f, -, H⟩; iexists f; iexact H

/-- The three shares of the tile that its three transfers read through. -/
abbrev s₁ : PosShare TreeShare := fullShare.left
abbrev s₂ : PosShare TreeShare := fullShare.right.left
abbrev s₃ : PosShare TreeShare := fullShare.right.right
/-- The two shares of the neighbour's tile that its two transfers read through. -/
abbrev u₁ : PosShare TreeShare := fullShare.left
abbrev u₂ : PosShare TreeShare := fullShare.right

/-- The part of `x` a load reads. -/
def xPart (c : Dev nD) (M : Memref sig .tc .hbm S64x1024 .f32) (f : Buf (Elt F) (M.view.loc (c : Thread nD τ))) : sProp 𝕄 :=
  M.view.loc (c : Thread nD τ) ↦[M.view.set]{fullShare} f

instance xPart_storable (c : Dev nD) (M : Memref sig .tc .hbm S64x1024 .f32) (f) :
    BI.Storable (upEmb : UEmb _ 𝕄) (xPart (F := F) c M f) := by unfold xPart; infer_instance

/-- What the semaphore of kind `a` and chunk `k` hands to its device `c`. -/
def pay (c : Dev nD) (a : Fin 12) (k : Fin 16) : sProp 𝕄 :=
  match a with
  | 0 => iprop(has c (chunk othM k) fullShare (othV m c k) ∗ xPart c (xOth c k) (xAt m c))
  | 1 => iprop(has c (chunk meM k) fullShare (meV m c k) ∗ xPart c (xMe c k) (xAt m c))
  | 2 => iprop(has c (outMe c k) fullShare (tilV m c k) ∗ has c (chunk tilM k) s₃ (tilV m c k))
  | 3 => iprop(has c (outOx c k) fullShare (tilV m (xp c) k) ∗ has c (chunk oxM k) u₂ (tilV m (xp c) k))
  | 4 => has c (chunk sndM k) fullShare (sndV m c k)
  | 5 => has c (chunk rcvM k) fullShare (sndV m (xp c) k)
  | 6 => has c (chunk tilM k) s₁ (tilV m c k)
  | 7 => has c (outMe (yp c) k) fullShare (tilV m (yp c) k)
  | 8 => has c (chunk tilM k) s₂ (tilV m c k)
  | 9 => has c (chunk oxM k) fullShare (tilV m (xp c) k)
  | 10 => has c (chunk oxM k) u₁ (tilV m (xp c) k)
  | 11 => has c (outOx (yp c) k) fullShare (tilV m (xp (yp c)) k)

instance pay_storable (c : Dev nD) (a : Fin 12) (k : Fin 16) : BI.Storable (upEmb : UEmb _ 𝕄) (pay m c a k) := by
  revert a; intro a; unfold pay has; split <;> infer_instance

/-- What the x-neighbour of `c` lends it at the barrier: where `c`'s chunks land there. -/
def lendX (c : Dev nD) : sProp 𝕄 :=
  bigSep Finset.univ fun k : Fin 16 => iprop(anyAt (F := F) (xp c) (chunk rcvM k) ∗ anyAt (xp c) (chunk oxM k))
/-- What the y-neighbour of `c` lends it at the barrier. -/
def lendY (c : Dev nD) : sProp 𝕄 :=
  bigSep Finset.univ fun k : Fin 16 => iprop(anyAt (F := F) (yp c) (outMe c k) ∗ anyAt (yp c) (outOx c k))

/-- What the barrier hands to `c`: duty `true` is its x-neighbour's, `false` its y-neighbour's. -/
def barPay (c : Dev nD) (d : Bool) : sProp 𝕄 := if d then lendX (F := F) c else lendY c

instance barPay_storable (c : Dev nD) (d : Bool) : BI.Storable (upEmb : UEmb _ 𝕄) (barPay (F := F) c d) := by
  unfold barPay lendX lendY; split <;> infer_instance

/-! ## The schedule -/

/-- The duties of a cell in its one round. -/
def dutiesOf : SemLoc sig → Finset Bool
  | .reg s => if s = barS then Finset.univ else ∅
  | .dma _ => {false}
def amountOf : SemLoc sig → ℕ
  | .reg _ => 1
  | .dma q => credOf (kindOf q)
def payOf (c : Dev nD) (d : Bool) : SemLoc sig → sProp 𝕄
  | .reg _ => barPay c d
  | .dma q => pay m c (kindOf q) (rowOf q)

/-- One round of every TensorCore's barrier and DMA semaphores. -/
def Rd : Rounds.Schedule (GSem nD τ sig) Bool 𝕄 where
  duties g r := if r = 0 ∧ g.1.2 = .tc then dutiesOf g.2 else ∅
  unitless _ := False
  amount g _ _ := amountOf g.2
  payload g _ d := payOf m g.1.1 d g.2
  amount_pos g _ _ _ := by
    show 0 < amountOf g.2
    cases g.2 with
    | reg s => exact Nat.one_pos
    | dma q => exact credOf_pos _

instance Rd_payload_storable (g : GSem nD τ sig) (r : ℕ) (d : Bool) : BI.Storable (upEmb : UEmb _ 𝕄) ((Rd m).payload g r d) := by
  show BI.Storable upEmb (payOf m g.1.1 d g.2)
  cases g.2 with
  | reg s => exact barPay_storable _ _
  | dma q => exact pay_storable m _ _ _

section Sched
variable (c : Dev nD) (a : Fin 12) (k : Fin 16)

/-- A barrier semaphore has two payments in its round. -/
theorem duties_bar : (Rd m).duties (barCell c) 0 = Finset.univ := by
  dsimp only [Rd]; rw [if_pos ⟨rfl, rfl⟩]; unfold dutiesOf; exact if_pos rfl
/-- A DMA semaphore has one. -/
theorem duties_cell : (Rd m).duties (cellG c a k) 0 = {false} :=
  by dsimp only [Rd]; rw [if_pos ⟨rfl, rfl⟩]; rfl
/-- No semaphore has a second round. -/
theorem duties_later (g : GSem nD τ sig) : ∀ r, 1 ≤ r → (Rd m).duties g r = ∅ := fun r hr => if_neg fun h => by omega

/-- A payment to the barrier is one unit. -/
theorem amount_bar (d : Bool) : (Rd m).amount (barCell c) 0 d = 1 := rfl
/-- A payment to a DMA semaphore is what its transfer counts for. -/
theorem amount_cell (d : Bool) : (Rd m).amount (cellG c a k) 0 d = credOf a := by
  show credOf (kindOf (sem a k)) = _; rw [kindOf_sem]
/-- A barrier semaphore is waited on for two units. -/
theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
/-- A DMA semaphore is waited on for its one transfer. -/
theorem expect_cell : (Rd m).expect (cellG c a k) 0 = credOf a := by
  unfold Schedule.expect Schedule.amountOf; rw [duties_cell, Finset.sum_singleton, amount_cell]

/-- What a payment to the barrier hands over. -/
theorem payload_bar (d : Bool) : (Rd m).payload (barCell c) 0 d = barPay c d := rfl
/-- What a transfer hands over. -/
theorem payload_cell (d : Bool) : (Rd m).payload (cellG c a k) 0 d = pay m c a k := by
  show pay m c (kindOf (sem a k)) (rowOf (sem a k)) = _; rw [kindOf_sem, rowOf_sem]

/-- The round of the barrier, no duty taken. -/
theorem rest_bar : bigSep ((Rd m).duties (barCell c) 0 \ ∅) (fun d => (Rd m).payload (barCell c) 0 d) = iprop(lendX (F := F) c ∗ lendY c) := by
  rw [Finset.sdiff_empty, duties_bar, bigSep_univ_eq_bigSepL [true, false] (by decide) (by decide), bigSepL_cons_cons, bigSepL_singleton]
  rfl
/-- The round of a DMA semaphore, no duty taken. -/
theorem rest_cell : bigSep ((Rd m).duties (cellG c a k) 0 \ ∅) (fun d => (Rd m).payload (cellG c a k) 0 d) = pay m c a k := by
  rw [Finset.sdiff_empty, duties_cell, bigSep_singleton, payload_cell]

end Sched

/-! ## What each device owes, and the levels -/

/-- What `c` owes for chunk `k` at the first exchange, at the sums, and at the forwarding. -/
def owRs (c : Dev nD) (k : Fin 16) : CellTallies nD τ sig Unit := tallyAt (cellG (xp c) kRsR k) () N16
def owSum (c : Dev nD) (k : Fin 16) : CellTallies nD τ sig Unit := tallyAt (cellG (xp c) kAxR k) () N16 + tallyAt (cellG (yp c) kAyR k) () N16
def owFw (c : Dev nD) (k : Fin 16) : CellTallies nD τ sig Unit := tallyAt (cellG (yp c) kFwR k) () N16

/-- The sum over a list of chunks, the first of the list outermost. -/
def osum (T : Fin 16 → CellTallies nD τ sig Unit) : List (Fin 16) → CellTallies nD τ sig Unit
  | [] => 0
  | k :: ks => osum T ks + T k

def oFw (c : Dev nD) : CellTallies nD τ sig Unit := osum (owFw c) chunks
def oSum (c : Dev nD) : CellTallies nD τ sig Unit := oFw c + osum (owSum c) chunks
def oAll (c : Dev nD) : CellTallies nD τ sig Unit := oSum c + osum (owRs c) chunks
def O₁ (c : Dev nD) : CellTallies nD τ sig Unit := oAll c + tallyAt (barCell (yp c)) () 1
/-- What `c` owes when the launch begins. -/
def O₀ (c : Dev nD) : CellTallies nD τ sig Unit := O₁ c + tallyAt (barCell (xp c)) () 1

def L (g : GSem nD τ sig) : Finset Unit := if g.1.2 = .tc then {()} else ∅
/-- The level of a kind: a wait is on a level below everything its device still owes. -/
def lvKind (a : Fin 12) : ℕ := if a = kRsR then 2 else if a = kAxR then 3 else if a = kAyR ∨ a = kFwR then 4 else 0
def lvOf : SemLoc sig → ℕ
  | .reg _ => 1
  | .dma q => lvKind (kindOf q)
def lv (g : GSem nD τ sig) (_ : Unit) : ℕ := lvOf g.2

/-- Nothing is owed to a semaphore of another core. -/
theorem L_of_ne (g : GSem nD τ sig) (h : g.1.2 ≠ .tc) : L g = ∅ := if_neg h
/-- To a TensorCore's semaphore one kind of thing is owed. -/
theorem L_tc (c : Dev nD) (sm : SemLoc sig) : L ((c : Thread nD τ), sm) = {()} := if_pos rfl
/-- The level of a DMA semaphore is that of its kind. -/
theorem lv_cell (c : Dev nD) (a : Fin 12) (k : Fin 16) : lv (cellG c a k) () = lvKind a := by
  show lvKind (kindOf (sem a k)) = _; rw [kindOf_sem]

/-- Everything in `O` is owed to a TensorCore's cell of a level above `n`. -/
def Above (n : ℕ) (O : CellTallies nD τ sig Unit) : Prop := ∀ (g : GSem nD τ sig) (i : Unit), 0 < O g i → g.1.2 = .tc ∧ n < lv g i

/-- Owing nothing is owing above every level. -/
theorem above_zero (n : ℕ) : Above n 0 := fun g i h => absurd h (Nat.lt_irrefl 0)
/-- Two debts above a level are together above it. -/
theorem Above.add {n : ℕ} {O O' : CellTallies nD τ sig Unit} (h : Above n O) (h' : Above n O') : Above n (O + O') := fun g i hg => by
  rw [Pi.add_apply, Finsupp.add_apply] at hg
  rcases Nat.eq_zero_or_pos (O g i) with e | e
  · exact h' g i (by omega)
  · exact h g i e
/-- A debt to one semaphore is above every lower level. -/
theorem above_tally {n : ℕ} (c : Dev nD) (sm : SemLoc sig) (N : ℕ) (h : n < lvOf sm) : Above n (tallyAt ((c : Thread nD τ), sm) () N) := fun g i hg => by
  rw [tallyAt_apply] at hg
  by_cases e : g = ((c : Thread nD τ), sm) ∧ i = ()
  · rw [e.1]; exact ⟨rfl, h⟩
  · rw [if_neg e] at hg; exact absurd hg (Nat.lt_irrefl 0)
/-- The same for a DMA semaphore, by its kind. -/
theorem above_cell {n : ℕ} (c : Dev nD) (a : Fin 12) (k : Fin 16) (N : ℕ) (h : n < lvKind a) : Above n (tallyAt (cellG c a k) () N) :=
  above_tally c _ N (by show n < lvKind (kindOf (sem a k)); rw [kindOf_sem]; exact h)
/-- Debts of the chunks, each above a level, are together above it. -/
theorem above_osum {n : ℕ} {T : Fin 16 → CellTallies nD τ sig Unit} (h : ∀ k, Above n (T k)) : ∀ ks, Above n (osum T ks)
  | [] => above_zero n
  | k :: ks => (above_osum h ks).add (h k)

/-- What is owed while the tiles are forwarded. -/
theorem above_fw (c : Dev nD) (ks) : Above 3 (osum (owFw c) ks) := above_osum (fun k => above_cell _ _ _ _ (by decide)) ks
/-- What is owed while the sums are sent. -/
theorem above_sum (c : Dev nD) (ks) : Above 2 (osum (owSum c) ks) :=
  above_osum (fun k => (above_cell _ _ _ _ (by decide)).add (above_cell _ _ _ _ (by decide))) ks
/-- What is owed while the halves are exchanged. -/
theorem above_rs (c : Dev nD) (ks) : Above 1 (osum (owRs c) ks) := above_osum (fun k => above_cell _ _ _ _ (by decide)) ks
/-- A debt above a level is above every lower one. -/
theorem Above.mono {n n' : ℕ} {O : CellTallies nD τ sig Unit} (h : Above n O) (hn : n' ≤ n) : Above n' O := fun g i hg => ⟨(h g i hg).1, lt_of_le_of_lt hn (h g i hg).2⟩

/-- A device may wait on a semaphore of a level at most `n` while everything it owes is above `n`. -/
theorem mayWait_above (c : Dev nD) (sm : SemLoc sig) {n : ℕ} {O : CellTallies nD τ sig Unit} (hs : lvOf sm ≤ n) (h : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hs)
    (fun g u hg => (h g u hg).2)

end Cert.KernelIdeal.Own

end
-- ==== Proof.Rules.lean ====
module

public import proofs.«01_k».proof.Proof.Proto

@[expose] public section

set_option maxRecDepth 16384

/-! # One step of the body

What a load, a store, a transfer, a wait and a pass over the chunks do, at the protocol's semaphores. -/

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-! ## What is known throughout -/

/-- A device's semaphores: its barrier's, and one of every kind and chunk. -/
abbrev CI : Type := Unit ⊕ (Fin 12 × Fin 16)
abbrev locAt : CI → SemLoc sig
  | .inl _ => .reg barS
  | .inr (a, k) => .dma (sem a k)
abbrev cellOfIx (i : Dev nD × CI) : GSem nD τ sig := ((i.1 : Thread nD τ), locAt i.2)

/-- Every semaphore follows the schedule, under the names `K`, and has reached its round. -/
def records (K : Dev nD × CI → ℕ) : sProp 𝕄 :=
  iprop((bigSep Finset.univ fun i : Dev nD × CI => cellInv ER (Rd m) (K i) (cellOfIx i))
    ∗ bigSep Finset.univ fun i : Dev nD × CI => reached ER (cellOfIx i) 0)
/-- That, and the levels. -/
def world (K : Dev nD × CI → ℕ) : sProp 𝕄 := iprop(records m K ∗ levAts L lv)

instance records_persistent (K : Dev nD × CI → ℕ) : BI.Persistent (records m K) := by unfold records; infer_instance
instance world_persistent (K : Dev nD × CI → ℕ) : BI.Persistent (world m K) := by unfold world; infer_instance

variable (K : Dev nD × CI → ℕ)

/-- Every semaphore's schedule stands. -/
theorem inv_at (i : Dev nD × CI) : world m K ⊢ (cellInv ER (Rd m) (K i) (cellOfIx i) : sProp 𝕄) := by
  unfold world records
  iintro ⟨⟨H, -⟩, -⟩
  iapply (show (bigSep Finset.univ fun i : Dev nD × CI => (cellInv ER (Rd m) (K i) (cellOfIx i) : sProp 𝕄)) ⊢ cellInv ER (Rd m) (K i) (cellOfIx i) from
    bigSep_elim (Finset.mem_univ i)); iexact H
/-- Every semaphore is in its round. -/
theorem reached_at (i : Dev nD × CI) : world m K ⊢ (reached ER (cellOfIx i) 0 : sProp 𝕄) := by
  unfold world records
  iintro ⟨⟨-, H⟩, -⟩
  iapply (show (bigSep Finset.univ fun i : Dev nD × CI => (reached ER (cellOfIx i) 0 : sProp 𝕄)) ⊢ reached ER (cellOfIx i) 0 from
    bigSep_elim (Finset.mem_univ i)); iexact H
/-- Every semaphore has its level. -/
theorem levels : world m K ⊢ (levAts L lv : sProp 𝕄) := by
  unfold world
  iintro ⟨-, H⟩; iexact H

/-! ## The steps -/

abbrev 𝒱₀ : Variants := Variants.none

/-- The device `c` runs `p` to `Q`. -/
abbrev Wp (c : Dev nD) (Q : PUnit → sProp 𝕄) (p : Pr F) : sProp 𝕄 :=
  wp frame (wpE (defs₀ (F := F)) 𝒱₀ (c : Thread nD τ) none) Set.univ p Q

/-- What the device owes, whatever it has waited for. -/
def ow (c : Dev nD) (O : CellTallies nD τ sig Unit) : sProp 𝕄 := iprop(∃ W, owes (c : Thread nD τ) O W)

/-- The right to pay the one duty of a DMA semaphore, the credit to wait on it, and its standing before and after. -/
abbrev tok (c : Dev nD) (a : Fin 12) (k : Fin 16) : sProp 𝕄 := dutyTok ER (cellG c a k) 0 false
abbrev crd (c : Dev nD) (a : Fin 12) (k : Fin 16) : sProp 𝕄 := cred (tallyAt (cellG c a k) () (credOf a))
abbrev open' (c : Dev nD) (a : Fin 12) (k : Fin 16) : sProp 𝕄 := atPos ER (cellG c a k) 0 ∅ 0
abbrev done' (c : Dev nD) (a : Fin 12) (k : Fin 16) : sProp 𝕄 := atPos ER (cellG c a k) 1 ∅ 0

variable {m K}
variable {c : Dev nD} {Q : PUnit.{1} → sProp (MT nD τ sig Unit (Elt F) ℕ UU ℕ)}

/-- A wait on a DMA semaphore of the device hands over what it stands for. -/
theorem wait_step {a : Fin 12} {k : Fin 16} {e : DmaSem sig} (he : e = sem a k) {sp sp' : Space} {s s' : Shape} {t t' : EltTy}
    {src : Memref sig .tc sp' s' t'} {dst : Memref sig .tc sp s t} {hs : src.view.WordExact} {hd : dst.view.WordExact}
    (hN : dst.view.dmaCredit = credOf a) {O : CellTallies nD τ sig Unit} (hO : Above (lvKind a) O) {r : Pr F} :
    iprop(world m K ∗ crd c a k ∗ ow c O ∗ open' c a k)
      ⊢ iprop((ow c O ∗ done' c a k ∗ pay m c a k -∗ Wp c Q r) -∗ Wp c Q (.op (.waitDma2 e src dst hs hd) fun _ => r)) := by
  subst he
  unfold ow
  iintro ⟨#Hw, Hc, ⟨%W, Ho⟩, Hat⟩ Hk
  iapply (Rounds.wp_wait_rest_token 𝒱₀ ER (Rd m) (c : Thread nD τ) none (κ := K (c, .inr (a, k)))
      (wpE_waitDma2_eq 𝒱₀ (c : Thread nD τ) none Set.univ) (Set.mem_univ _) () (O := O) (W := W) (R := 0) (m := 0) (T := ∅)
      (by rw [Nat.zero_add, expect_cell]; exact hN)) $$ [Hc Ho Hat]
  · isplitr; · iapply (inv_at m K (c, .inr (a, k))); iexact Hw
    isplitl [Hc]; · rw [hN]; iexact Hc
    isplitl [Ho]; · iexact Ho
    isplitr; · iapply (mayWait_above c _ (n := lvKind a) (by show lvKind (kindOf (sem a k)) ≤ _; rw [kindOf_sem]) hO); iapply (levels m K); iexact Hw
    iexact Hat
  iintro ⟨Ho, Hat, -, Hp⟩
  ihave Hp := (Entails.of_eq (rest_cell m c a k)) $$ Hp
  iapply Hk
  isplitl [Ho]; · iexists _; iexact Ho
  isplitl [Hat]; · iexact Hat
  iexact Hp

/-- What a view holds after it is written whole. -/
theorem has_write {n : Dev nD} {sp : Space} {s : Shape} {t : EltTy} (M : Memref sig .tc sp s t) (f : Buf (Elt F) (M.view.loc (n : Thread nD τ))) (X : s.Idx → Elt F t) :
    (M.view.loc (n : Thread nD τ) ↦[M.view.set]{fullShare} (M.view.write (Elt F) f X Finset.univ) : sProp 𝕄) ⊢ has n M fullShare X := by
  unfold has owns
  iintro H; iexists (M.view.write (Elt F) f X Finset.univ); isplitr
  · ipureintro; exact View.read_write_univ _ _
  · iexact H

/-- A transfer inside the device, started: its semaphore will hand over both ends. -/
theorem copy_step {a : Fin 12} {k : Fin 16} {e : DmaSem sig} (he : e = sem a k) {sp sp' : Space} {s : Shape} {t : EltTy}
    {src : Memref sig .tc sp s t} {dst : Memref sig .tc sp' s t} {hs : src.view.WordExact} {hd : dst.view.WordExact}
    {hsem : DmaTarget.Typed (nD := nD) sp (.dma e) (DmaTarget.here (p := Proc.tc) dst)}
    (hN : dst.view.dmaCredit = credOf a) {q : PosShare TreeShare} {f : Buf (Elt F) (src.view.loc (c : Thread nD τ))}
    (hpay : iprop(has c dst fullShare (src.view.read (Elt F) f) ∗ (src.view.loc (c : Thread nD τ) ↦[src.view.set]{q} f)) ⊢ pay m c a k) {r : Pr F} :
    iprop(world m K ∗ (src.view.loc (c : Thread nD τ) ↦[src.view.set]{q} f) ∗ anyAt c dst ∗ tok c a k)
      ⊢ iprop((crd c a k -∗ Wp c Q r) -∗ Wp c Q (.op (.enqueueDma src (.here dst) (.dma e) hs hd hsem) fun _ => r)) := by
  subst he
  unfold anyAt
  iintro ⟨#Hw, Hs, ⟨%fd, Hd⟩, Ht⟩ Hk
  iapply (Rounds.wp_copy_pointsTo 𝒱₀ ER (Rd m) (c : Thread nD τ) none (κ := K (c, .inr (a, k))) (fd := fd) (r := 0) (d := false)
      (by rw [duties_cell]; exact Finset.mem_singleton_self _) () (credOf a) (by exact hN) (amount_cell m c a k false)
      (by rw [payload_cell]; exact (sep_mono_left (has_write _ _ _)).trans hpay)) $$ [Hs Hd Ht]
  · isplitr; · iapply (inv_at m K (c, .inr (a, k))); iexact Hw
    isplitl [Hs]; · iexact Hs
    isplitl [Hd]; · iexact Hd
    isplitl [Ht]; · iexact Ht
    iapply (reached_at m K (c, .inr (a, k))); iexact Hw
  iexact Hk

/-- The same from a source that holds `X`. -/
theorem copy_has_step {a : Fin 12} {k : Fin 16} {e : DmaSem sig} (he : e = sem a k) {sp sp' : Space} {s : Shape} {t : EltTy}
    {src : Memref sig .tc sp s t} {dst : Memref sig .tc sp' s t} {hs : src.view.WordExact} {hd : dst.view.WordExact}
    {hsem : DmaTarget.Typed (nD := nD) sp (.dma e) (DmaTarget.here (p := Proc.tc) dst)}
    (hN : dst.view.dmaCredit = credOf a) {q : PosShare TreeShare} {X : s.Idx → Elt F t}
    (hpay : iprop(has c dst fullShare X ∗ has c src q X) ⊢ pay m c a k) {r : Pr F} :
    iprop(world m K ∗ has c src q X ∗ anyAt c dst ∗ tok c a k)
      ⊢ iprop((crd c a k -∗ Wp c Q r) -∗ Wp c Q (.op (.enqueueDma src (.here dst) (.dma e) hs hd hsem) fun _ => r)) := by
  iintro ⟨#Hw, Hs, Hd, Ht⟩ Hk
  unfold has owns
  icases Hs with ⟨%f, %hf, Hs⟩
  iapply (copy_step (m := m) (K := K) (c := c) (Q := Q) he hN (q := q) (f := f) (by
    subst hf
    refine (sep_mono_right ?_).trans hpay
    unfold has owns; iintro H; iexists f; isplitr; · (ipureintro; rfl)
    iexact H)) $$ [Hs Hd Ht]
  · isplitr; · iexact Hw
    isplitl [Hs]; · iexact Hs
    isplitl [Hd] <;> iassumption
  iexact Hk

/-- A transfer to the device `n`, started: the device's semaphore will hand back the source, `n`'s the destination. -/
theorem send_step {n : Dev nD} {a b : Fin 12} {k : Fin 16} {eS eR : DmaSem sig} (hS : eS = sem a k) (hR : eR = sem b k)
    {sp sp' : Space} {s : Shape} {t : EltTy}
    {src : Memref sig .tc sp s t} {dst : Memref sig .tc sp' s t} {hsc : dst.view.ref.isScScratch = false} {hs : src.view.WordExact} {hd : dst.view.WordExact}
    {hsem : DmaTarget.Typed (nD := nD) sp (.dma eR) (.remote (Dev.tc n : Thread nD τ) dst (.dma eS) hsc)}
    (hN : dst.view.dmaCredit = N16) (ha : credOf a = N16) (hb : credOf b = N16) {q : PosShare TreeShare} {X : s.Idx → Elt F t} {O : CellTallies nD τ sig Unit}
    (hpay₁ : has c src q X ⊢ pay m c a k) (hpay₂ : has n dst fullShare X ⊢ pay m n b k) {r : Pr F} :
    iprop(world m K ∗ has c src q X ∗ anyAt n dst ∗ ow c (O + tallyAt (cellG n b k) () N16) ∗ tok c a k ∗ tok n b k)
      ⊢ iprop((crd c a k ∗ ow c O -∗ Wp c Q r)
        -∗ Wp c Q (.op (.enqueueDma src (.remote (Dev.tc n : Thread nD τ) dst (.dma eS) hsc) (.dma eR) hs hd hsem) fun _ => r)) := by
  subst hS; subst hR
  unfold anyAt ow has owns
  iintro ⟨#Hw, ⟨%f, %hf, Hs⟩, ⟨%fd, Hd⟩, ⟨%W, Ho⟩, Ht, Htn⟩ Hk
  iapply (Rounds.wp_send_pointsTo 𝒱₀ ER (Rd m) (c : Thread nD τ) none (κ₁ := K (c, .inr (a, k))) (κ₂ := K (n, .inr (b, k)))
      (r₁ := 0) (r₂ := 0) (d₁ := false) (d₂ := false) (fd := fd)
      (by rw [duties_cell]; exact Finset.mem_singleton_self _) (by rw [duties_cell]; exact Finset.mem_singleton_self _)
      () () N16 (by exact hN) ((amount_cell m c a k false).trans ha) ((amount_cell m n b k false).trans hb) O rfl (W := W)
      (by
        rw [payload_cell]; refine BIBase.Entails.trans ?_ hpay₁
        unfold has owns; iintro H; iexists f; isplitr; · (ipureintro; exact hf)
        iexact H)
      (by rw [payload_cell]; subst hf; exact (has_write _ _ _).trans hpay₂)) $$ [Hs Hd Ho Ht Htn]
  · isplitr; · iapply (inv_at m K (c, .inr (a, k))); iexact Hw
    isplitr; · iapply (inv_at m K (n, .inr (b, k))); iexact Hw
    isplitl [Hs]; · iexact Hs
    isplitl [Hd]; · iexact Hd
    isplitl [Ho]; · iexact Ho
    isplitl [Ht]; · iexact Ht
    isplitr; · iapply (reached_at m K (c, .inr (a, k))); iexact Hw
    isplitl [Htn]; · iexact Htn
    iapply (reached_at m K (n, .inr (b, k))); iexact Hw
  iintro ⟨Hc, Ho⟩
  iapply Hk
  isplitl [Hc]; · unfold crd; rw [ha]; iexact Hc
  iexists W; iexact Ho

/-- The load of a chunk reads what it holds. -/
theorem load_step {t : EltTy} {M : Memref sig .tc .vmem S1024x1024 t} {k : Fin 16} {q : PosShare TreeShare} {X : Vec F S64x1024 t} {r : Vec F S64x1024 t → Pr F} :
    (has c (chunk M k) q X : sProp 𝕄) ⊢ iprop((has c (chunk M k) q X -∗ Wp c Q (r X)) -∗ Wp c Q (loadC M k r)) := by
  unfold has owns
  iintro ⟨%f, %hf, H⟩ Hk
  iapply (wp_load 𝒱₀ (c : Thread nD τ) none Set.univ (m := M) (S := (chunk M k).view.set) (by exact (View.set_slice _ _).ge)) $$ H
  iintro H
  rw [show M.view.readAt (Elt F) (rowsRect k).toLoadRect f = X from hf]
  iapply Hk
  iexists f; isplitr; · (ipureintro; exact hf)
  iexact H

/-- The load of a chunk that holds something. -/
theorem load_any_step {t : EltTy} {M : Memref sig .tc .vmem S1024x1024 t} {k : Fin 16} {r : Vec F S64x1024 t → Pr F} :
    (anyAt c (chunk M k) : sProp 𝕄) ⊢ iprop((∀ v, anyAt c (chunk M k) -∗ Wp c Q (r v)) -∗ Wp c Q (loadC M k r)) := by
  unfold anyAt
  iintro ⟨%f, H⟩ Hk
  iapply (wp_load 𝒱₀ (c : Thread nD τ) none Set.univ (m := M) (S := (chunk M k).view.set) (by exact (View.set_slice _ _).ge)) $$ H
  iintro H
  iapply Hk
  iexists f; iexact H

/-- The store of a chunk. -/
theorem store_step {M : Memref sig .tc .vmem S1024x1024 .bf16} {hM : M.IsWhole} {k : Fin 16} {v : FVec F S64x1024 .bf16} {r : Pr F} :
    (anyAt c (chunk M k) : sProp 𝕄) ⊢ iprop((has c (chunk M k) fullShare v -∗ Wp c Q r) -∗ Wp c Q (storeC M hM k v r)) := by
  unfold anyAt
  iintro ⟨%f, H⟩ Hk
  iapply (wp_store 𝒱₀ (c : Thread nD τ) none Set.univ (m := M) (r := rowsRect k) (Mk := Finset.univ) (S := (chunk M k).view.set) (by exact subset_rfl)) $$ H
  iintro H
  iapply Hk
  iapply (has_write (chunk M k) f v); iexact H

/-! ## A pass over the chunks -/

/-- One thing for each chunk of a list. -/
def sepL (P : Fin 16 → sProp 𝕄) : List (Fin 16) → sProp 𝕄
  | [] => iprop(emp)
  | k :: ks => iprop(P k ∗ sepL P ks)

/-- Over the sixteen chunks it is one thing for each. -/
theorem sepL_nodup (P : Fin 16 → sProp 𝕄) : ∀ ks : List (Fin 16), ks.Nodup → sepL P ks = bigSep ks.toFinset P
  | [], _ => by rw [List.toFinset_nil, bigSep_empty]; rfl
  | k :: ks, h => by
    rw [List.toFinset_cons, bigSep_insert (by rw [List.mem_toFinset]; exact (List.nodup_cons.mp h).1), ← sepL_nodup P ks (List.nodup_cons.mp h).2]; rfl
/-- The sixteen chunks, one after the other, are all the chunks. -/
theorem sepL_chunks (P : Fin 16 → sProp 𝕄) : sepL P chunks = bigSep Finset.univ P := by
  rw [sepL_nodup P chunks (by decide), show chunks.toFinset = Finset.univ from by decide]

/-- If the stretch of every chunk turns `P` into `Q'` and passes on what is threaded through the list, so does the pass. -/
theorem each_step {R : sProp 𝕄} [BI.Persistent R] {P Q' : Fin 16 → sProp 𝕄} {S : List (Fin 16) → sProp 𝕄} {f : Fin 16 → Pr F → Pr F}
    (h : ∀ k ks r, iprop(R ∗ P k ∗ S (k :: ks)) ⊢ iprop((Q' k ∗ S ks -∗ Wp c Q r) -∗ Wp c Q (f k r))) :
    ∀ ks r, iprop(R ∗ sepL P ks ∗ S ks) ⊢ iprop((sepL Q' ks ∗ S [] -∗ Wp c Q r) -∗ Wp c Q (each f ks r))
  | [], r => by
    iintro ⟨-, -, HS⟩ Hk
    iapply Hk
    isplitr
    · unfold sepL; iempintro
    · iexact HS
  | k :: ks, r => by
    have ih := each_step h ks r
    unfold sepL each
    iintro ⟨#HR, ⟨HP, HPs⟩, HS⟩ Hk
    iapply (h k ks _) $$ [HP HS]
    · isplitr; · iexact HR
      isplitl [HP] <;> iassumption
    iintro ⟨HQ, HS⟩
    iapply ih $$ [HPs HS]
    · isplitr; · iexact HR
      isplitl [HPs] <;> iassumption
    iintro ⟨HQs, HS⟩
    iapply Hk
    isplitl [HQ HQs]
    · isplitl [HQ] <;> iassumption
    iexact HS

/-- The same over the sixteen chunks. -/
theorem pass_step {R : sProp 𝕄} [BI.Persistent R] {P Q' : Fin 16 → sProp 𝕄} {S : List (Fin 16) → sProp 𝕄} {f : Fin 16 → Pr F → Pr F}
    (h : ∀ k ks r, iprop(R ∗ P k ∗ S (k :: ks)) ⊢ iprop((Q' k ∗ S ks -∗ Wp c Q r) -∗ Wp c Q (f k r))) (r : Pr F) :
    iprop(R ∗ bigSep Finset.univ P ∗ S chunks) ⊢ iprop((bigSep Finset.univ Q' ∗ S [] -∗ Wp c Q r) -∗ Wp c Q (each f chunks r)) := by
  rw [← sepL_chunks P, ← sepL_chunks Q']; exact each_step h chunks r

end Cert.KernelIdeal.Own

end
-- ==== Proof.Phases.lean ====
module

public import proofs.«01_k».proof.Proof.Rules

@[expose] public section

set_option maxRecDepth 16384

/-! # The phases

What each pass over the chunks turns into what, on the device `c`, and with them the whole body. -/

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Shares -/

/-- What a share shows, its two halves show. -/
theorem has_halves (c : Dev nD) {sp : Space} {s : Shape} {e : EltTy} (M : Memref sig .tc sp s e) (q : PosShare TreeShare) (X : s.Idx → Elt F e) :
    (has c M q X : sProp 𝕄) ⊢ iprop(has c M q.left X ∗ has c M q.right X) := by
  unfold has owns
  iintro ⟨%f, %hf, H⟩
  ihave H := ((pointsTo_share (PosShare.mem_left_op_right q)).1) $$ H
  icases H with ⟨H1, H2⟩
  isplitl [H1]
  · iexists f; isplitr; · (ipureintro; exact hf)
    iexact H1
  · iexists f; isplitr; · (ipureintro; exact hf)
    iexact H2

/-- Two halves that are held make a whole. -/
theorem halves_has (c : Dev nD) {sp : Space} {s : Shape} {e : EltTy} (M : Memref sig .tc sp s e) (q : PosShare TreeShare) (X : s.Idx → Elt F e) :
    iprop(has c M q.left X ∗ has c M q.right X) ⊢ (has c M q X : sProp 𝕄) := by
  unfold has owns
  iintro ⟨⟨%f, %hf, H1⟩, ⟨%g, %hg, H2⟩⟩
  have hfg : ∀ i ∈ M.view.set, g i = f i := fun i hi => by
    obtain ⟨x, -, rfl⟩ := Finset.mem_map.mp hi
    have h := congrFun (hg.trans hf.symm) x
    rw [View.read_apply, View.read_apply] at h
    exact (cast_bijective _).1 h
  ihave H2 := (Entails.of_eq (pointsTo_congr hfg)) $$ H2
  iexists f; isplitr; · (ipureintro; exact hf)
  iapply ((pointsTo_share (PosShare.mem_left_op_right q)).2)
  isplitl [H1] <;> iassumption

variable (m : (ℓ : Loc nD τ sig) → Buf (Elt F) ℓ)

/-! ## The passes -/

section Passes
variable (K : Dev nD × CI → ℕ) (c : Dev nD) {Q : PUnit.{1} → sProp (MT nD τ sig Unit (Elt F) ℕ UU ℕ)}

/-- A semaphore to be waited on, and one that has been. -/
abbrev due (c : Dev nD) (a : Fin 12) (k : Fin 16) : sProp 𝕄 := iprop(crd c a k ∗ open' c a k)
abbrev got (c : Dev nD) (a : Fin 12) (k : Fin 16) : sProp 𝕄 := iprop(done' c a k ∗ pay m c a k)

/-- The load of a chunk to be given away hands over the scratch buffer's chunk, holding it, and the rows of `x` that were read. -/
theorem pay_ldOth (k : Fin 16) : pay m c kLdOth k = iprop(has c (chunk othM k) fullShare (othV m c k) ∗ xPart c (xOth c k) (xAt m c)) := rfl
/-- The load of a chunk to be kept hands over the same for the half that is kept. -/
theorem pay_ldMe (k : Fin 16) : pay m c kLdMe k = iprop(has c (chunk meM k) fullShare (meV m c k) ∗ xPart c (xMe c k) (xAt m c)) := rfl
/-- The x-neighbour's rounded chunk arrives in the receive buffer. -/
theorem pay_rsR (k : Fin 16) : pay m c kRsR k = has c (chunk rcvM k) fullShare (sndV m (xp c) k) := rfl
/-- The x-neighbour's tile of the sum arrives chunk by chunk. -/
theorem pay_axR (k : Fin 16) : pay m c kAxR k = has c (chunk oxM k) fullShare (tilV m (xp c) k) := rfl

/-- Starting the load of a chunk of the half given away. -/
def preOth (k : Fin 16) : sProp 𝕄 := iprop(xPart c (xOth c k) (xAt m c) ∗ anyAt c (chunk othM k) ∗ tok c kLdOth k)
/-- Starting the load of a chunk of the half kept. -/
def preMe (k : Fin 16) : sProp 𝕄 := iprop(xPart c (xMe c k) (xAt m c) ∗ anyAt c (chunk meM k) ∗ tok c kLdMe k)
/-- Sending a chunk of the half given away: before, and after. -/
def preGive (k : Fin 16) : sProp 𝕄 :=
  iprop(due c kLdOth k ∗ anyAt c (chunk sndM k) ∗ anyAt (xp c) (chunk rcvM k) ∗ tok c kRsS k ∗ tok (xp c) kRsR k)
def postGive (k : Fin 16) : sProp 𝕄 := iprop(got m c kLdOth k ∗ crd c kRsS k)
/-- Adding a chunk and sending the sum: before, and after. -/
def preReduce (k : Fin 16) : sProp 𝕄 :=
  iprop(due c kRsR k ∗ due c kLdMe k ∗ anyAt c (chunk tilM k) ∗ anyAt (yp c) (outMe c k) ∗ anyAt (xp c) (chunk oxM k) ∗ anyAt c (outMe c k)
    ∗ tok c kAyS k ∗ tok (yp c) kAyR k ∗ tok c kAxS k ∗ tok (xp c) kAxR k ∗ tok c kStMe k)
def postReduce (k : Fin 16) : sProp 𝕄 := iprop(got m c kRsR k ∗ got m c kLdMe k ∗ crd c kAyS k ∗ crd c kAxS k ∗ crd c kStMe k)
/-- Forwarding the x-neighbour's sum of a chunk: before, and after. -/
def preForward (k : Fin 16) : sProp 𝕄 :=
  iprop(due c kAxR k ∗ anyAt (yp c) (outOx c k) ∗ anyAt c (outOx c k) ∗ tok c kFwS k ∗ tok (yp c) kFwR k ∗ tok c kStOx k)
def postForward (k : Fin 16) : sProp 𝕄 := iprop(done' c kAxR k ∗ crd c kFwS k ∗ crd c kStOx k)
/-- The last waits on a chunk: before, and after. -/
def preSettle (k : Fin 16) : sProp 𝕄 :=
  iprop(due c kRsS k ∗ due c kAxS k ∗ due c kAyS k ∗ due c kAyR k ∗ due c kFwS k ∗ due c kFwR k ∗ due c kStMe k ∗ due c kStOx k)
def postSettle (k : Fin 16) : sProp 𝕄 :=
  iprop(got m c kRsS k ∗ got m c kAxS k ∗ got m c kAyS k ∗ got m c kAyR k ∗ got m c kFwS k ∗ got m c kFwR k ∗ got m c kStMe k ∗ got m c kStOx k)

/-- First pass: every chunk to be given away is on its way from `x` into its scratch buffer. -/
theorem oth_pass (r : Pr F) : iprop(world m K ∗ bigSep Finset.univ (preOth m c) ∗ emp)
    ⊢ iprop((bigSep Finset.univ (fun k => crd c kLdOth k) ∗ emp -∗ Wp c Q r) -∗ Wp c Q (each (startOth c) chunks r)) := by
  refine pass_step (S := fun _ => iprop(emp)) (fun k ks r => ?_) r
  unfold preOth xPart startOth
  iintro ⟨#Hw, ⟨Hx, Hd, Ht⟩, -⟩ Hk
  iapply (copy_step (m := m) (K := K) (at6 k) (by exact rfl) (q := fullShare) (f := xAt m c) (Entails.of_eq rfl)) $$ [Hx Hd Ht]
  · isplitr; · iexact Hw
    isplitl [Hx]; · iexact Hx
    isplitl [Hd] <;> iassumption
  iintro Hc
  iapply Hk
  isplitl [Hc]; · iexact Hc
  iempintro

/-- Second pass: every chunk to be kept is on its way. -/
theorem me_pass (r : Pr F) : iprop(world m K ∗ bigSep Finset.univ (preMe m c) ∗ emp)
    ⊢ iprop((bigSep Finset.univ (fun k => crd c kLdMe k) ∗ emp -∗ Wp c Q r) -∗ Wp c Q (each (startMe c) chunks r)) := by
  refine pass_step (S := fun _ => iprop(emp)) (fun k ks r => ?_) r
  unfold preMe xPart startMe
  iintro ⟨#Hw, ⟨Hx, Hd, Ht⟩, -⟩ Hk
  iapply (copy_step (m := m) (K := K) (at7 k) (by exact rfl) (q := fullShare) (f := xAt m c) (Entails.of_eq rfl)) $$ [Hx Hd Ht]
  · isplitr; · iexact Hw
    isplitl [Hx]; · iexact Hx
    isplitl [Hd] <;> iassumption
  iintro Hc
  iapply Hk
  isplitl [Hc]; · iexact Hc
  iempintro

/-- The barrier: each neighbour is lent what it will write here, and the device gets what it will write there. -/
theorem meet_step (r : Pr F) :
    iprop(world m K ∗ ow c (O₀ c) ∗ dutyTok ER (barCell (xp c)) 0 true ∗ dutyTok ER (barCell (yp c)) 0 false ∗ lendX (F := F) (xp c) ∗ lendY (yp c)
        ∗ cred (tallyAt (barCell c) () 2) ∗ atPos ER (barCell c) 0 ∅ 0)
      ⊢ iprop((ow c (oAll c) ∗ atPos ER (barCell c) 1 ∅ 0 ∗ lendX (F := F) c ∗ lendY c -∗ Wp c Q r) -∗ Wp c Q (meet c r)) := by
  unfold meet ow
  iintro ⟨#Hw, ⟨%W, Ho⟩, HtX, HtY, HlX, HlY, Hc, Hat⟩ Hk
  iapply (Rounds.wp_signal 𝒱₀ ER (Rd m) (c : Thread nD τ) none (dst := (xp c : Thread nD τ)) (κ := K (xp c, .inl ())) (r := 0)
      (d := true) (by rw [duties_bar]; exact Finset.mem_univ _) ((amount_bar m (xp c) true).trans (by decide)) () (O₁ c) rfl)
    $$ [Ho HtX HlX]
  · isplitr; · iapply (inv_at m K (xp c, .inl ())); iexact Hw
    isplitl [Ho]; · iexact Ho
    isplitl [HtX]; · iexact HtX
    isplitl [HlX]; · rw [payload_bar]; unfold barPay; rw [if_pos rfl]; iexact HlX
    iapply (reached_at m K (xp c, .inl ())); iexact Hw
  iintro Ho
  iapply (Rounds.wp_signal 𝒱₀ ER (Rd m) (c : Thread nD τ) none (dst := (yp c : Thread nD τ)) (κ := K (yp c, .inl ())) (r := 0)
      (d := false) (by rw [duties_bar]; exact Finset.mem_univ _) ((amount_bar m (yp c) false).trans (by decide)) () (oAll c) rfl)
    $$ [Ho HtY HlY]
  · isplitr; · iapply (inv_at m K (yp c, .inl ())); iexact Hw
    isplitl [Ho]; · iexact Ho
    isplitl [HtY]; · iexact HtY
    isplitl [HlY]; · rw [payload_bar]; unfold barPay; rw [if_neg Bool.false_ne_true]; iexact HlY
    iapply (reached_at m K (yp c, .inl ())); iexact Hw
  iintro Ho
  iapply (Rounds.wp_wait_rest_token 𝒱₀ ER (Rd m) (c : Thread nD τ) none (κ := K (c, .inl ()))
      (wpE_semWait_eq 𝒱₀ (c : Thread nD τ) none Set.univ) (Set.mem_univ _) () (O := oAll c) (W := W) (R := 0) (m := 0) (T := ∅)
      (by rw [expect_bar]; decide)) $$ [Hc Ho Hat]
  · isplitr; · iapply (inv_at m K (c, .inl ())); iexact Hw
    isplitl [Hc]; · iexact Hc
    isplitl [Ho]; · iexact Ho
    isplitr
    · iapply (mayWait_above c _ (n := 1) (le_refl 1) ((((above_fw c chunks).mono (by decide)).add ((above_sum c chunks).mono (by decide))).add (above_rs c chunks)))
      iapply (levels m K); iexact Hw
    iexact Hat
  iintro ⟨Ho, Hat, -, Hp⟩
  ihave Hp := (Entails.of_eq (rest_bar m c)) $$ Hp
  icases Hp with ⟨HX, HY⟩
  iapply Hk
  isplitl [Ho]; · iexists _; iexact Ho
  isplitl [Hat]; · iexact Hat
  isplitl [HX] <;> iassumption

/-- Third pass: every chunk to be given away has landed, is rounded, and is on its way to the x-neighbour. -/
theorem give_pass (r : Pr F) : iprop(world m K ∗ bigSep Finset.univ (preGive c) ∗ ow c (oAll c))
    ⊢ iprop((bigSep Finset.univ (postGive m c) ∗ ow c (oSum c) -∗ Wp c Q r) -∗ Wp c Q (each (give c) chunks r)) := by
  have h := pass_step (c := c) (Q := Q) (R := world m K) (P := preGive c) (Q' := postGive m c) (S := fun ks => ow c (oSum c + osum (owRs c) ks)) (f := give c) (fun k ks r => ?_) r
  · rw [show oSum c + osum (owRs c) [] = oSum c from add_zero _] at h; exact h
  unfold preGive postGive give
  iintro ⟨#Hw, ⟨⟨Hc, Hat⟩, Hs, Hd, Ht, Htn⟩, Ho⟩ Hk
  iapply (wait_step (m := m) (K := K) (at6 k) (by exact rfl) (O := oSum c + osum (owRs c) (k :: ks))
      ((((above_fw c chunks).mono (by decide)).add ((above_sum c chunks).mono (by decide))).add ((above_rs c (k :: ks)).mono (by decide)))) $$ [Hc Ho Hat]
  · isplitr; · iexact Hw
    isplitl [Hc]; · iexact Hc
    isplitl [Ho] <;> iassumption
  iintro ⟨Ho, Hat, Hp⟩
  ihave Hp := (Entails.of_eq (pay_ldOth m c k)) $$ Hp
  icases Hp with ⟨Hoth, Hx⟩
  iapply load_step $$ Hoth; iintro Hoth
  iapply load_any_step $$ Hs; iintro %v Hs
  iapply store_step $$ Hs; iintro Hs
  rw [show oSum c + osum (owRs c) (k :: ks) = (oSum c + osum (owRs c) ks) + tallyAt (cellG (xp c) kRsR k) () N16 from (add_assoc _ _ _).symm]
  iapply (send_step (m := m) (K := K) (n := xp c) (a := kRsS) (b := kRsR) (X := sndV m c k) (at10 k) (at11 k) (by exact rfl) rfl rfl (Entails.of_eq rfl)
      (Entails.of_eq (by show _ = has (xp c) (chunk rcvM k) fullShare (sndV m (xp (xp c)) k); rw [xp_xp]))) $$ [Hs Hd Ho Ht Htn]
  · isplitr; · iexact Hw
    isplitl [Hs]; · iexact Hs
    isplitl [Hd]; · iexact Hd
    isplitl [Ho]; · iexact Ho
    isplitl [Ht] <;> iassumption
  iintro ⟨Hc, Ho⟩
  iapply Hk
  isplitr [Ho]
  · isplitr [Hc]
    · isplitl [Hat]; · iexact Hat
      rw [pay_ldOth]; isplitl [Hoth] <;> iassumption
    · iexact Hc
  iexact Ho

/-- What is owed at a chunk's sum, what it is paid with last and first set apart. -/
theorem owes_sum (k : Fin 16) (ks : List (Fin 16)) : oFw c + osum (owSum c) (k :: ks)
    = ((oFw c + osum (owSum c) ks) + tallyAt (cellG (xp c) kAxR k) () N16) + tallyAt (cellG (yp c) kAyR k) () N16 := by
  show oFw c + (osum (owSum c) ks + (tallyAt (cellG (xp c) kAxR k) () N16 + tallyAt (cellG (yp c) kAyR k) () N16)) = _
  rw [← add_assoc, ← add_assoc]

/-- Fourth pass: every chunk of the device's tile is summed and on its way to both neighbours and into the device's own result. -/
theorem reduce_pass (r : Pr F) : iprop(world m K ∗ bigSep Finset.univ (preReduce c) ∗ ow c (oSum c))
    ⊢ iprop((bigSep Finset.univ (postReduce m c) ∗ ow c (oFw c) -∗ Wp c Q r) -∗ Wp c Q (each (reduce c) chunks r)) := by
  have h := pass_step (c := c) (Q := Q) (R := world m K) (P := preReduce c) (Q' := postReduce m c) (S := fun ks => ow c (oFw c + osum (owSum c) ks)) (f := reduce c) (fun k ks r => ?_) r
  · rw [show oFw c + osum (owSum c) [] = oFw c from add_zero _] at h; exact h
  unfold preReduce postReduce reduce
  iintro ⟨#Hw, ⟨⟨Hc, Hat⟩, ⟨Hc', Hat'⟩, Hs, HdY, HdX, Hd, Ht1, Ht1n, Ht2, Ht2n, Ht3⟩, Ho⟩ Hk
  iapply (wait_step (m := m) (K := K) (at11 k) (by exact rfl) (O := oFw c + osum (owSum c) (k :: ks))
      (((above_fw c chunks).mono (by decide)).add ((above_sum c (k :: ks)).mono (by decide)))) $$ [Hc Ho Hat]
  · isplitr; · iexact Hw
    isplitl [Hc]; · iexact Hc
    isplitl [Ho] <;> iassumption
  iintro ⟨Ho, Hat, Hrcv⟩
  iapply (wait_step (m := m) (K := K) (at7 k) (by exact rfl) (O := oFw c + osum (owSum c) (k :: ks))
      (((above_fw c chunks).mono (by decide)).add ((above_sum c (k :: ks)).mono (by decide)))) $$ [Hc' Ho Hat']
  · isplitr; · iexact Hw
    isplitl [Hc']; · iexact Hc'
    isplitl [Ho] <;> iassumption
  iintro ⟨Ho, Hat', Hp⟩
  ihave Hp := (Entails.of_eq (pay_ldMe m c k)) $$ Hp
  icases Hp with ⟨Hme, Hx⟩
  iapply load_step $$ Hme; iintro Hme
  ihave Hrcv := (Entails.of_eq (pay_rsR m c k)) $$ Hrcv
  iapply load_step $$ Hrcv; iintro Hrcv
  iapply load_any_step $$ Hs; iintro %v Hs
  iapply store_step $$ Hs; iintro Hs
  ihave Hs := (Entails.of_eq (show (has c (chunk tilM k) fullShare (combine (meV m c k) (sndV m (xp c) k)) : sProp 𝕄) = has c (chunk tilM k) fullShare (tilV m c k) from rfl)) $$ Hs
  ihave Hs := (has_halves c (chunk tilM k) fullShare (tilV m c k)) $$ Hs
  icases Hs with ⟨Hs1, Hs⟩
  ihave Hs := (has_halves c (chunk tilM k) fullShare.right (tilV m c k)) $$ Hs
  icases Hs with ⟨Hs2, Hs3⟩
  rw [owes_sum]
  iapply (send_step (m := m) (K := K) (n := yp c) (a := kAyS) (b := kAyR) (X := tilV m c k) (q := s₁) (at12 k) (at13 k) (by exact rfl) rfl rfl (Entails.of_eq rfl)
      (Entails.of_eq (by show _ = has (yp c) (outMe (yp (yp c)) k) fullShare (tilV m (yp (yp c)) k); rw [yp_yp]))) $$ [Hs1 HdY Ho Ht1 Ht1n]
  · isplitr; · iexact Hw
    isplitl [Hs1]; · iexact Hs1
    isplitl [HdY]; · iexact HdY
    isplitl [Ho]; · iexact Ho
    isplitl [Ht1] <;> iassumption
  iintro ⟨Hc1, Ho⟩
  iapply (send_step (m := m) (K := K) (n := xp c) (a := kAxS) (b := kAxR) (X := tilV m c k) (q := s₂) (at14 k) (at15 k) (by exact rfl) rfl rfl (Entails.of_eq rfl)
      (Entails.of_eq (by show _ = has (xp c) (chunk oxM k) fullShare (tilV m (xp (xp c)) k); rw [xp_xp]))) $$ [Hs2 HdX Ho Ht2 Ht2n]
  · isplitr; · iexact Hw
    isplitl [Hs2]; · iexact Hs2
    isplitl [HdX]; · iexact HdX
    isplitl [Ho]; · iexact Ho
    isplitl [Ht2] <;> iassumption
  iintro ⟨Hc2, Ho⟩
  iapply (copy_has_step (m := m) (K := K) (a := kStMe) (X := tilV m c k) (q := s₃) (at8 k) (by exact rfl) (Entails.of_eq rfl)) $$ [Hs3 Hd Ht3]
  · isplitr; · iexact Hw
    isplitl [Hs3]; · iexact Hs3
    isplitl [Hd] <;> iassumption
  iintro Hc3
  iapply Hk
  isplitr [Ho]
  · isplitl [Hat Hrcv]
    · isplitl [Hat]; · iexact Hat
      rw [pay_rsR]; iexact Hrcv
    isplitl [Hat' Hme Hx]
    · isplitl [Hat']; · iexact Hat'
      rw [pay_ldMe]; isplitl [Hme] <;> iassumption
    isplitl [Hc1]; · iexact Hc1
    isplitl [Hc2] <;> iassumption
  iexact Ho

/-- Fifth pass: every chunk of the x-neighbour's tile has arrived and is on its way to the y-neighbour and into the device's own result. -/
theorem forward_pass (r : Pr F) : iprop(world m K ∗ bigSep Finset.univ (preForward c) ∗ ow c (oFw c))
    ⊢ iprop((bigSep Finset.univ (postForward (F := F) c) ∗ ow c 0 -∗ Wp c Q r) -∗ Wp c Q (each (forward c) chunks r)) := by
  refine pass_step (c := c) (Q := Q) (R := world m K) (P := preForward c) (Q' := postForward c) (S := fun ks => ow c (osum (owFw c) ks)) (f := forward c) (fun k ks r => ?_) r
  unfold preForward postForward forward
  iintro ⟨#Hw, ⟨⟨Hc, Hat⟩, HdY, Hd, Ht1, Ht1n, Ht2⟩, Ho⟩ Hk
  iapply (wait_step (m := m) (K := K) (at15 k) (by exact rfl) (O := osum (owFw c) (k :: ks)) (above_fw c (k :: ks))) $$ [Hc Ho Hat]
  · isplitr; · iexact Hw
    isplitl [Hc]; · iexact Hc
    isplitl [Ho] <;> iassumption
  iintro ⟨Ho, Hat, Hs⟩
  ihave Hs := (Entails.of_eq (pay_axR m c k)) $$ Hs
  ihave Hs := (has_halves c (chunk oxM k) fullShare (tilV m (xp c) k)) $$ Hs
  icases Hs with ⟨Hs1, Hs2⟩
  iapply (send_step (m := m) (K := K) (n := yp c) (a := kFwS) (b := kFwR) (X := tilV m (xp c) k) (q := u₁) (O := osum (owFw c) ks) (at16 k) (at17 k) (by exact rfl) rfl rfl (Entails.of_eq rfl)
      (Entails.of_eq (by show _ = has (yp c) (outOx (yp (yp c)) k) fullShare (tilV m (xp (yp (yp c))) k); rw [yp_yp]))) $$ [Hs1 HdY Ho Ht1 Ht1n]
  · isplitr; · iexact Hw
    isplitl [Hs1]; · iexact Hs1
    isplitl [HdY]; · iexact HdY
    isplitl [Ho]; · iexact Ho
    isplitl [Ht1] <;> iassumption
  iintro ⟨Hc1, Ho⟩
  iapply (copy_has_step (m := m) (K := K) (a := kStOx) (X := tilV m (xp c) k) (q := u₂) (at9 k) (by exact rfl) (Entails.of_eq rfl)) $$ [Hs2 Hd Ht2]
  · isplitr; · iexact Hw
    isplitl [Hs2]; · iexact Hs2
    isplitl [Hd] <;> iassumption
  iintro Hc2
  iapply Hk
  isplitr [Ho]
  · isplitl [Hat]; · iexact Hat
    isplitl [Hc1] <;> iassumption
  iexact Ho

/-- A wait when nothing is owed. -/
theorem last_wait {a : Fin 12} {k : Fin 16} {e : DmaSem sig} (he : e = sem a k) {sp sp' : Space} {s s' : Shape} {t t' : EltTy}
    {src : Memref sig .tc sp' s' t'} {dst : Memref sig .tc sp s t} {hs : src.view.WordExact} {hd : dst.view.WordExact}
    (hN : dst.view.dmaCredit = credOf a) {r : Pr F} :
    iprop(world m K ∗ due c a k ∗ ow c 0)
      ⊢ iprop((got m c a k ∗ ow c 0 -∗ Wp c Q r) -∗ Wp c Q (.op (.waitDma2 e src dst hs hd) fun _ => r)) := by
  iintro ⟨#Hw, ⟨Hc, Hat⟩, Ho⟩ Hk
  iapply (wait_step (m := m) (K := K) he hN (above_zero _)) $$ [Hc Ho Hat]
  · isplitr; · iexact Hw
    isplitl [Hc]; · iexact Hc
    isplitl [Ho] <;> iassumption
  iintro ⟨Ho, Hat, Hp⟩
  iapply Hk
  isplitr [Ho]
  · isplitl [Hat] <;> iassumption
  iexact Ho

/-- Last pass: every transfer still under way is waited for. -/
theorem settle_pass (r : Pr F) : iprop(world m K ∗ bigSep Finset.univ (preSettle c) ∗ ow c 0)
    ⊢ iprop((bigSep Finset.univ (postSettle m c) ∗ ow c 0 -∗ Wp c Q r) -∗ Wp c Q (each (settle c) chunks r)) := by
  refine pass_step (c := c) (Q := Q) (R := world m K) (P := preSettle c) (Q' := postSettle m c) (S := fun _ => ow c 0) (f := settle c) (fun k ks r => ?_) r
  unfold preSettle postSettle settle
  iintro ⟨#Hw, ⟨H1, H2, H3, H4, H5, H6, H7, H8⟩, Ho⟩ Hk
  iapply (last_wait m K c (at10 k) (by exact rfl)) $$ [H1 Ho]
  · isplitr; · iexact Hw
    isplitl [H1] <;> iassumption
  iintro ⟨H1, Ho⟩
  iapply (last_wait m K c (at14 k) (by exact rfl)) $$ [H2 Ho]
  · isplitr; · iexact Hw
    isplitl [H2] <;> iassumption
  iintro ⟨H2, Ho⟩
  iapply (last_wait m K c (at12 k) (by exact rfl)) $$ [H3 Ho]
  · isplitr; · iexact Hw
    isplitl [H3] <;> iassumption
  iintro ⟨H3, Ho⟩
  iapply (last_wait m K c (at13 k) (by exact rfl)) $$ [H4 Ho]
  · isplitr; · iexact Hw
    isplitl [H4] <;> iassumption
  iintro ⟨H4, Ho⟩
  iapply (last_wait m K c (at16 k) (by exact rfl)) $$ [H5 Ho]
  · isplitr; · iexact Hw
    isplitl [H5] <;> iassumption
  iintro ⟨H5, Ho⟩
  iapply (last_wait m K c (at17 k) (by exact rfl)) $$ [H6 Ho]
  · isplitr; · iexact Hw
    isplitl [H6] <;> iassumption
  iintro ⟨H6, Ho⟩
  iapply (last_wait m K c (at8 k) (by exact rfl)) $$ [H7 Ho]
  · isplitr; · iexact Hw
    isplitl [H7] <;> iassumption
  iintro ⟨H7, Ho⟩
  iapply (last_wait m K c (at9 k) (by exact rfl)) $$ [H8 Ho]
  · isplitr; · iexact Hw
    isplitl [H8] <;> iassumption
  iintro ⟨H8, Ho⟩
  iapply Hk
  isplitr [Ho]
  · isplitl [H1]; · iexact H1
    isplitl [H2]; · iexact H2
    isplitl [H3]; · iexact H3
    isplitl [H4]; · iexact H4
    isplitl [H5]; · iexact H5
    isplitl [H6]; · iexact H6
    isplitl [H7] <;> iassumption
  iexact Ho

end Passes

end Cert.KernelIdeal.Own

end
-- ==== Proof.Whole.lean ====
module

public import proofs.«01_k».proof.Proof.Phases

@[expose] public section

set_option maxRecDepth 16384

/-! # The body

The phases one after the other, from what a device holds when the body begins to what it holds when it ends. -/

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## One thing for each chunk -/

/-- Two families at once, chunk by chunk, give a third. -/
theorem chunks_zip {A B C : Fin 16 → sProp 𝕄} (h : ∀ k, iprop(A k ∗ B k) ⊢ C k) :
    iprop(bigSep Finset.univ A ∗ bigSep Finset.univ B) ⊢ bigSep Finset.univ C := by
  rw [← bigSep_sep']; exact bigSep_mono fun k _ => h k
/-- A family gives two, chunk by chunk. -/
theorem chunks_split {A B C : Fin 16 → sProp 𝕄} (h : ∀ k, C k ⊢ iprop(A k ∗ B k)) :
    bigSep Finset.univ C ⊢ iprop(bigSep Finset.univ A ∗ bigSep Finset.univ B) := by
  rw [← bigSep_sep']; exact bigSep_mono fun k _ => h k
/-- One thing for each kind, listed. -/
theorem kinds_eq (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

variable (m : (ℓ : Loc nD τ sig) → Buf (Elt F) ℓ) (c : Dev nD)

/-! ## Before and after -/

/-- The device's memory of chunk `k` at the beginning. -/
def memBefore (k : Fin 16) : sProp 𝕄 :=
  iprop((xPart c (xOth c k) (xAt m c) ∗ xPart c (xMe c k) (xAt m c))
    ∗ (anyAt c (outMe c k) ∗ anyAt c (outOx c k) ∗ anyAt c (outMe (yp c) k) ∗ anyAt c (outOx (yp c) k))
    ∗ anyAt c (chunk othM k) ∗ anyAt c (chunk meM k) ∗ anyAt c (chunk sndM k) ∗ anyAt c (chunk rcvM k) ∗ anyAt c (chunk tilM k) ∗ anyAt c (chunk oxM k))
/-- The device's memory of chunk `k` at the end: `x` as it was, the four tiles of the result. -/
def memAfter (k : Fin 16) : sProp 𝕄 :=
  iprop((xPart c (xOth c k) (xAt m c) ∗ xPart c (xMe c k) (xAt m c))
    ∗ (has c (outMe c k) fullShare (tilV m c k) ∗ has c (outOx c k) fullShare (tilV m (xp c) k)
      ∗ has c (outMe (yp c) k) fullShare (tilV m (yp c) k) ∗ has c (outOx (yp c) k) fullShare (tilV m (xp (yp c)) k))
    ∗ anyAt c (chunk othM k) ∗ anyAt c (chunk meM k) ∗ anyAt c (chunk sndM k) ∗ anyAt c (chunk rcvM k) ∗ anyAt c (chunk tilM k) ∗ anyAt c (chunk oxM k))
/-- The duties the device pays for chunk `k`. -/
def duties (k : Fin 16) : sProp 𝕄 :=
  iprop((tok (F := F) c kLdOth k ∗ tok c kLdMe k ∗ tok c kStMe k ∗ tok c kStOx k ∗ tok c kRsS k ∗ tok c kAyS k ∗ tok c kAxS k ∗ tok c kFwS k)
    ∗ (tok (xp c) kRsR k ∗ tok (xp c) kAxR k) ∗ tok (yp c) kAyR k ∗ tok (yp c) kFwR k)
/-- The credit the device has for chunk `k`: what its neighbours owe it. -/
def credits (k : Fin 16) : sProp 𝕄 := iprop(crd (F := F) c kRsR k ∗ crd c kAxR k ∗ crd c kAyR k ∗ crd c kFwR k)
/-- Everything of chunk `k` at the beginning, and at the end. -/
def before (k : Fin 16) : sProp 𝕄 :=
  iprop(memBefore m c k ∗ duties c k ∗ credits c k ∗ bigSep Finset.univ fun a => open' c a k)
def after (k : Fin 16) : sProp 𝕄 := iprop(memAfter m c k ∗ bigSep Finset.univ fun a => done' c a k)

/-! ## The parts of what is held before, phase by phase -/

def lentX (k : Fin 16) : sProp 𝕄 := iprop(anyAt (F := F) c (chunk rcvM k) ∗ anyAt c (chunk oxM k))
def lentY (k : Fin 16) : sProp 𝕄 := iprop(anyAt (F := F) c (outMe (yp c) k) ∗ anyAt c (outOx (yp c) k))
def forGive (k : Fin 16) : sProp 𝕄 := iprop(open' (F := F) c kLdOth k ∗ anyAt c (chunk sndM k) ∗ tok c kRsS k ∗ tok (xp c) kRsR k)
def forReduce (k : Fin 16) : sProp 𝕄 :=
  iprop(due (F := F) c kRsR k ∗ open' c kLdMe k ∗ anyAt c (chunk tilM k) ∗ anyAt c (outMe c k) ∗ tok c kAyS k ∗ tok (yp c) kAyR k ∗ tok c kAxS k ∗ tok (xp c) kAxR k ∗ tok c kStMe k)
def forForward (k : Fin 16) : sProp 𝕄 :=
  iprop(due (F := F) c kAxR k ∗ anyAt c (outOx c k) ∗ tok c kFwS k ∗ tok (yp c) kFwR k ∗ tok c kStOx k)
def forSettle (k : Fin 16) : sProp 𝕄 :=
  iprop((open' (F := F) c kRsS k ∗ open' c kAxS k ∗ open' c kAyS k ∗ open' c kFwS k ∗ open' c kStMe k ∗ open' c kStOx k) ∗ due c kAyR k ∗ due c kFwR k)

/-- What a device starts with for a chunk, sorted by the phase that uses it. -/
theorem before_parts (k : Fin 16) : before m c k
    ⊢ iprop(preOth m c k ∗ preMe m c k ∗ lentX c k ∗ lentY c k ∗ forGive c k ∗ forReduce c k ∗ forForward c k ∗ forSettle c k) := by
  unfold before memBefore duties credits preOth preMe lentX lentY forGive forReduce forForward forSettle
  rw [kinds_eq]
  iintro ⟨⟨⟨X1, X2⟩, ⟨O1, O2, O3, O4⟩, M1, M2, M3, M4, M5, M6⟩, ⟨⟨T0, T1, T2, T3, T4, T6, T8, T10⟩, ⟨T5, T9⟩, T7, T11⟩, ⟨C5, C9, C7, C11⟩,
    P0, P1, P2, P3, P4, P5, P6, P7, P8, P9, P10, P11⟩
  isplitl [X1 M1 T0]
  · isplitl [X1]; · iexact X1
    isplitl [M1] <;> iassumption
  isplitl [X2 M2 T1]
  · isplitl [X2]; · iexact X2
    isplitl [M2] <;> iassumption
  isplitl [M4 M6]
  · isplitl [M4] <;> iassumption
  isplitl [O3 O4]
  · isplitl [O3] <;> iassumption
  isplitl [P0 M3 T4 T5]
  · isplitl [P0]; · iexact P0
    isplitl [M3]; · iexact M3
    isplitl [T4] <;> iassumption
  isplitl [C5 P5 P1 M5 O1 T6 T7 T8 T9 T2]
  · isplitl [C5 P5]
    · isplitl [C5] <;> iassumption
    isplitl [P1]; · iexact P1
    isplitl [M5]; · iexact M5
    isplitl [O1]; · iexact O1
    isplitl [T6]; · iexact T6
    isplitl [T7]; · iexact T7
    isplitl [T8]; · iexact T8
    isplitl [T9] <;> iassumption
  isplitl [C9 P9 O2 T10 T11 T3]
  · isplitl [C9 P9]
    · isplitl [C9] <;> iassumption
    isplitl [O2]; · iexact O2
    isplitl [T10]; · iexact T10
    isplitl [T11] <;> iassumption
  isplitl [P4 P8 P6 P10 P2 P3]
  · isplitl [P4]; · iexact P4
    isplitl [P8]; · iexact P8
    isplitl [P6]; · iexact P6
    isplitl [P10]; · iexact P10
    isplitl [P2] <;> iassumption
  isplitl [C7 P7]
  · isplitl [C7] <;> iassumption
  isplitl [C11] <;> iassumption

/-- What the giving away of a chunk needs. -/
theorem for_give (k : Fin 16) : iprop(crd c kLdOth k ∗ anyAt (xp c) (chunk rcvM k) ∗ forGive c k) ⊢ (preGive c k : sProp 𝕄) := by
  unfold forGive preGive
  iintro ⟨C, R, P, M, T1, T2⟩
  isplitl [C P]
  · isplitl [C] <;> iassumption
  isplitl [M]; · iexact M
  isplitl [R]; · iexact R
  isplitl [T1] <;> iassumption

/-- What the summing of a chunk needs. -/
theorem for_reduce (k : Fin 16) : iprop((crd c kLdMe k ∗ anyAt (xp c) (chunk oxM k) ∗ anyAt (yp c) (outMe c k)) ∗ forReduce c k) ⊢ (preReduce c k : sProp 𝕄) := by
  unfold forReduce preReduce
  iintro ⟨⟨C, X, Y⟩, D, P, M, O, T⟩
  isplitl [D]; · iexact D
  isplitl [C P]
  · isplitl [C] <;> iassumption
  isplitl [M]; · iexact M
  isplitl [Y]; · iexact Y
  isplitl [X]; · iexact X
  isplitl [O] <;> iassumption

/-- What the forwarding of a chunk needs. -/
theorem for_forward (k : Fin 16) : iprop(anyAt (yp c) (outOx c k) ∗ forForward c k) ⊢ (preForward c k : sProp 𝕄) := by
  unfold forForward preForward
  iintro ⟨Y, D, T⟩
  isplitl [D]; · iexact D
  isplitl [Y] <;> iassumption

/-- What the first passes leave for the end. -/
def kept (k : Fin 16) : sProp 𝕄 := iprop(got m c kLdOth k ∗ got m c kRsR k ∗ got m c kLdMe k ∗ done' c kAxR k)
/-- The credit they leave for the last waits. -/
def lastCredits (k : Fin 16) : sProp 𝕄 :=
  iprop(crd (F := F) c kRsS k ∗ (crd c kAyS k ∗ crd c kAxS k ∗ crd c kStMe k) ∗ crd c kFwS k ∗ crd c kStOx k)

/-- What the three phases leave: what is kept, and the credits still to be waited for. -/
theorem post_parts (k : Fin 16) : iprop(postGive m c k ∗ postReduce m c k ∗ postForward c k) ⊢ iprop(kept m c k ∗ lastCredits c k) := by
  unfold postGive postReduce postForward kept lastCredits
  iintro ⟨⟨G0, C4⟩, ⟨G5, G1, C6, C8, C2⟩, G9, C10, C3⟩
  isplitl [G0 G5 G1 G9]
  · isplitl [G0]; · iexact G0
    isplitl [G5]; · iexact G5
    isplitl [G1] <;> iassumption
  isplitl [C4]; · iexact C4
  isplitl [C6 C8 C2]
  · isplitl [C6]; · iexact C6
    isplitl [C8] <;> iassumption
  isplitl [C10] <;> iassumption

/-- What the last phase needs for a chunk. -/
theorem for_settle (k : Fin 16) : iprop(lastCredits c k ∗ forSettle c k) ⊢ (preSettle c k : sProp 𝕄) := by
  unfold lastCredits forSettle preSettle
  iintro ⟨⟨C4, ⟨C6, C8, C2⟩, C10, C3⟩, ⟨P4, P8, P6, P10, P2, P3⟩, D7, D11⟩
  isplitl [C4 P4]
  · isplitl [C4] <;> iassumption
  isplitl [C8 P8]
  · isplitl [C8] <;> iassumption
  isplitl [C6 P6]
  · isplitl [C6] <;> iassumption
  isplitl [D7]; · iexact D7
  isplitl [C10 P10]
  · isplitl [C10] <;> iassumption
  isplitl [D11]; · iexact D11
  isplitl [C2 P2]
  · isplitl [C2] <;> iassumption
  isplitl [C3] <;> iassumption

/-- What a device ends with for a chunk. -/
theorem parts_after (k : Fin 16) : iprop(kept m c k ∗ postSettle m c k) ⊢ after m c k := by
  unfold kept postSettle after memAfter
  rw [kinds_eq]
  unfold got
  rw [pay_ldOth, pay_ldMe, pay_rsR]
  rw [show pay m c kRsS k = has c (chunk sndM k) fullShare (sndV m c k) from rfl,
    show pay m c kAxS k = has c (chunk tilM k) s₂ (tilV m c k) from rfl,
    show pay m c kAyS k = has c (chunk tilM k) s₁ (tilV m c k) from rfl,
    show pay m c kAyR k = has c (outMe (yp c) k) fullShare (tilV m (yp c) k) from rfl,
    show pay m c kFwS k = has c (chunk oxM k) u₁ (tilV m (xp c) k) from rfl,
    show pay m c kFwR k = has c (outOx (yp c) k) fullShare (tilV m (xp (yp c)) k) from rfl,
    show pay m c kStMe k = iprop(has c (outMe c k) fullShare (tilV m c k) ∗ has c (chunk tilM k) s₃ (tilV m c k)) from rfl,
    show pay m c kStOx k = iprop(has c (outOx c k) fullShare (tilV m (xp c) k) ∗ has c (chunk oxM k) u₂ (tilV m (xp c) k)) from rfl]
  iintro ⟨⟨⟨P0, M1, X1⟩, ⟨P5, M4⟩, ⟨P1, M2, X2⟩, P9⟩, ⟨P4, M3⟩, ⟨P8, T2⟩, ⟨P6, T1⟩, ⟨P7, O3⟩, ⟨P10, U1⟩, ⟨P11, O4⟩, ⟨P2, O1, T3⟩, P3, O2, U2⟩
  isplitr [P0 P1 P2 P3 P4 P5 P6 P7 P8 P9 P10 P11]
  · isplitl [X1 X2]
    · isplitl [X1] <;> iassumption
    isplitl [O1 O2 O3 O4]
    · isplitl [O1]; · iexact O1
      isplitl [O2]; · iexact O2
      isplitl [O3] <;> iassumption
    isplitl [M1]; · iapply (has_any c (chunk othM k) _); iexact M1
    isplitl [M2]; · iapply (has_any c (chunk meM k) _); iexact M2
    isplitl [M3]; · iapply (has_any c (chunk sndM k) _); iexact M3
    isplitl [M4]; · iapply (has_any c (chunk rcvM k) _); iexact M4
    isplitl [T1 T2 T3]
    · iapply (has_any c (chunk tilM k) (tilV m c k))
      iapply (halves_has c (chunk tilM k) fullShare (tilV m c k))
      isplitl [T1]; · iexact T1
      iapply (halves_has c (chunk tilM k) fullShare.right (tilV m c k))
      isplitl [T2] <;> iassumption
    · iapply (has_any c (chunk oxM k) (tilV m (xp c) k))
      iapply (halves_has c (chunk oxM k) fullShare (tilV m (xp c) k))
      isplitl [U1] <;> iassumption
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  isplitl [P8]; · iexact P8
  isplitl [P9]; · iexact P9
  isplitl [P10] <;> iassumption

/-! ## The barrier's tokens -/

/-- The barrier's part of what a device begins with. -/
def barBefore : sProp 𝕄 :=
  iprop(dutyTok ER (barCell (xp c)) 0 true ∗ dutyTok ER (barCell (yp c)) 0 false ∗ cred (tallyAt (barCell c) () 2) ∗ atPos ER (barCell c) 0 ∅ 0)

/-- The chunks lent to the x-neighbour, seen from there. -/
theorem lend_x : bigSep Finset.univ (lentX c) ⊢ (lendX (xp c) : sProp 𝕄) := by
  unfold lentX lendX; rw [xp_xp]
/-- The chunks lent to the y-neighbour, seen from there. -/
theorem lend_y : bigSep Finset.univ (lentY c) ⊢ (lendY (yp c) : sProp 𝕄) := by
  unfold lentY lendY; rw [yp_yp]

variable (K : Dev nD × CI → ℕ) {Q : PUnit.{1} → sProp (MT nD τ sig Unit (Elt F) ℕ UU ℕ)}

/-- The body, from what a device begins with to what it ends with. -/
theorem body_step : iprop(world m K ∗ ow c (O₀ c) ∗ barBefore c ∗ bigSep Finset.univ (before m c))
    ⊢ iprop((ow c 0 ∗ atPos ER (barCell c) 1 ∅ 0 ∗ bigSep Finset.univ (after m c) -∗ Wp c Q (.ret ⟨⟩)) -∗ Wp c Q (phases c)) := by
  unfold phases barBefore
  iintro ⟨#Hw, Ho, ⟨BtX, BtY, Bc, Bat⟩, HB⟩ Hk
  ihave HB := (show bigSep Finset.univ (before m c) ⊢ iprop(bigSep Finset.univ (preOth m c) ∗ bigSep Finset.univ (preMe m c) ∗ bigSep Finset.univ (lentX c)
      ∗ bigSep Finset.univ (lentY c) ∗ bigSep Finset.univ (forGive c) ∗ bigSep Finset.univ (forReduce c) ∗ bigSep Finset.univ (forForward c)
      ∗ bigSep Finset.univ (forSettle c)) from by
    simp only [← bigSep_sep']; exact bigSep_mono fun k _ => before_parts m c k) $$ HB
  icases HB with ⟨Hoth, Hme, HlX, HlY, Hgive, Hreduce, Hforward, Hsettle⟩
  iapply (oth_pass m K c _) $$ [Hoth]
  · isplitr; · iexact Hw
    isplitl [Hoth]; · iexact Hoth
    iempintro
  iintro ⟨Coth, -⟩
  iapply (me_pass m K c _) $$ [Hme]
  · isplitr; · iexact Hw
    isplitl [Hme]; · iexact Hme
    iempintro
  iintro ⟨Cme, -⟩
  iapply (meet_step m K c _) $$ [Ho BtX BtY Bc Bat HlX HlY]
  · isplitr; · iexact Hw
    isplitl [Ho]; · iexact Ho
    isplitl [BtX]; · iexact BtX
    isplitl [BtY]; · iexact BtY
    isplitl [HlX]; · iapply (lend_x c); iexact HlX
    isplitl [HlY]; · iapply (lend_y c); iexact HlY
    isplitl [Bc] <;> iassumption
  iintro ⟨Ho, Bat, HlX, HlY⟩
  unfold lendX lendY
  simp only [bigSep_sep']
  icases HlX with ⟨HrcvX, HoxX⟩
  icases HlY with ⟨HmeY, HoxY⟩
  ihave Hgive := (show iprop(bigSep Finset.univ (fun k => crd c kLdOth k) ∗ bigSep Finset.univ (fun k => anyAt (xp c) (chunk rcvM k)) ∗ bigSep Finset.univ (forGive c))
      ⊢ (bigSep Finset.univ (preGive c) : sProp 𝕄) from by
    rw [← bigSep_sep', ← bigSep_sep']; exact bigSep_mono fun k _ => for_give c k) $$ [Coth HrcvX Hgive]
  · isplitl [Coth]; · iexact Coth
    isplitl [HrcvX] <;> iassumption
  iapply (give_pass m K c _) $$ [Hgive Ho]
  · isplitr; · iexact Hw
    isplitl [Hgive] <;> iassumption
  iintro ⟨Hgive, Ho⟩
  ihave Hreduce := (show iprop((bigSep Finset.univ (fun k => crd c kLdMe k) ∗ bigSep Finset.univ (fun k => anyAt (xp c) (chunk oxM k)) ∗ bigSep Finset.univ (fun k => anyAt (yp c) (outMe c k)))
        ∗ bigSep Finset.univ (forReduce c)) ⊢ (bigSep Finset.univ (preReduce c) : sProp 𝕄) from by
    rw [← bigSep_sep', ← bigSep_sep', ← bigSep_sep']; exact bigSep_mono fun k _ => for_reduce c k) $$ [Cme HoxX HmeY Hreduce]
  · isplitr [Hreduce]
    · isplitl [Cme]; · iexact Cme
      isplitl [HoxX] <;> iassumption
    iexact Hreduce
  iapply (reduce_pass m K c _) $$ [Hreduce Ho]
  · isplitr; · iexact Hw
    isplitl [Hreduce] <;> iassumption
  iintro ⟨Hreduce, Ho⟩
  ihave Hforward := (chunks_zip (for_forward c)) $$ [HoxY Hforward]
  · isplitl [HoxY] <;> iassumption
  iapply (forward_pass m K c _) $$ [Hforward Ho]
  · isplitr; · iexact Hw
    isplitl [Hforward] <;> iassumption
  iintro ⟨Hforward, Ho⟩
  ihave Hpost := (show iprop(bigSep Finset.univ (postGive m c) ∗ bigSep Finset.univ (postReduce m c) ∗ bigSep Finset.univ (postForward c))
      ⊢ iprop(bigSep Finset.univ (kept m c) ∗ bigSep Finset.univ (lastCredits c)) from by
    rw [← bigSep_sep', ← bigSep_sep', ← bigSep_sep']; exact bigSep_mono fun k _ => post_parts m c k) $$ [Hgive Hreduce Hforward]
  · isplitl [Hgive]; · iexact Hgive
    isplitl [Hreduce] <;> iassumption
  icases Hpost with ⟨Hkept, Hlast⟩
  ihave Hsettle := (chunks_zip (for_settle c)) $$ [Hlast Hsettle]
  · isplitl [Hlast] <;> iassumption
  iapply (settle_pass m K c _) $$ [Hsettle Ho]
  · isplitr; · iexact Hw
    isplitl [Hsettle] <;> iassumption
  iintro ⟨Hsettle, Ho⟩
  ihave Hafter := (chunks_zip (parts_after m c)) $$ [Hkept Hsettle]
  · isplitl [Hkept] <;> iassumption
  iapply Hk
  isplitl [Ho]; · iexact Ho
  isplitl [Bat] <;> iassumption

/-! ## The semaphores at the end -/

/-- A DMA semaphore that has been waited on is at zero, and stays there. -/
theorem close_cell (i : Dev nD × CI) : iprop(world m K ∗ atPos ER (cellOfIx i) 1 ∅ 0) ⊢ (|={Set.univ}=> semVal (cellOfIx i) 0 : sProp 𝕄) := by
  iintro ⟨#Hw, Hat⟩
  imod (Rounds.cell_close ER (Rd m) (Set.mem_univ (K i)) (fun h => h) (R := 0 + 1) (duties_later m (cellOfIx i))) $$ [Hat] with Hz
  · isplitr; · iapply (inv_at m K i); iexact Hw
    iexact Hat
  imodintro
  iexact Hz

/-- All of a device's DMA semaphores. -/
theorem close_all : iprop(world m K ∗ bigSep Finset.univ fun k => bigSep Finset.univ fun a => done' c a k)
    ⊢ (|={Set.univ}=> bigSep Finset.univ fun k : Fin 16 => bigSep Finset.univ fun a : Fin 12 => semVal (cellG c a k) 0 : sProp 𝕄) := by
  refine BIBase.Entails.trans ?_ (bigSep_fupd _ _)
  refine bigSep_with_persistent fun k _ => BIBase.Entails.trans ?_ (bigSep_fupd _ _)
  exact bigSep_with_persistent fun a _ => close_cell m K (c, .inr (a, k))

end Cert.KernelIdeal.Own

end
-- ==== Proof.Tiles.lean ====
module

public import proofs.«01_k».proof.Proof.Whole

@[expose] public section

set_option maxRecDepth 16384

/-! # Tiles

The buffers cut into the pieces the body works on, and put together again. -/

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Cutting a buffer -/

section Cut
variable {ℓ : Loc nD τ sig} {T : Type} [Fintype T] [DecidableEq T]

/-- Sets of elements that cover a buffer, no two meeting. -/
structure Cuts (K : T → Finset (Idx ℓ)) : Prop where
  apart : ∀ t t', t ≠ t' → Disjoint (K t) (K t')
  cover : ∀ i, ∃ t, i ∈ K t

/-- A buffer is its pieces. -/
theorem cut_eq {K : T → Finset (Idx ℓ)} (h : Cuts K) (f : Buf (Elt F) ℓ) :
    (ℓ ↦{fullShare} f : sProp 𝕄) = bigSep Finset.univ fun t => ℓ ↦[K t]{fullShare} f := by
  classical
  rw [← pointsTo_biUnion Finset.univ K (fun t _ t' _ e => h.apart t t' e)]
  congr 1
  ext i; simpa using h.cover i

omit [Fintype T] in
/-- Facts about each piece are one fact. -/
theorem all_pure (S : Finset T) (p : T → Prop) : bigSep S (fun t => iprop(⌜p t⌝ : sProp 𝕄)) ⊢ iprop(⌜∀ t ∈ S, p t⌝ : sProp 𝕄) := by
  induction S using Finset.induction_on with
  | empty => iintro -; ipureintro; intro t h; exact absurd h (Finset.notMem_empty t)
  | insert t S ht ih =>
    rw [bigSep_insert ht]
    show iprop(⌜p t⌝ ∗ bigSep S fun t => iprop(⌜p t⌝ : sProp 𝕄)) ⊢ _
    iintro ⟨%h, H⟩
    ihave %h' := (ih) $$ H
    ipureintro
    intro t' h''
    rcases Finset.mem_insert.mp h'' with rfl | h''
    · exact h
    · exact h' t' h''

/-- Pieces that hold something each make a buffer that holds, piece by piece, the same. -/
theorem cut_join {K : T → Finset (Idx ℓ)} (h : Cuts K) (P : T → Buf (Elt F) ℓ → Prop)
    (hP : ∀ t f g, (∀ i ∈ K t, g i = f i) → P t f → P t g) (f₀ : Buf (Elt F) ℓ) :
    (bigSep Finset.univ fun t => iprop(∃ f : Buf (Elt F) ℓ, ⌜P t f⌝ ∗ ℓ ↦[K t]{fullShare} f) : sProp 𝕄)
      ⊢ iprop(∃ g, ⌜∀ t, P t g⌝ ∗ ℓ ↦{fullShare} g) := by
  classical
  iintro H
  ihave H := (bigSep_exists_pi Finset.univ fun t (f : Buf (Elt F) ℓ) => iprop(⌜P t f⌝ ∗ ℓ ↦[K t]{fullShare} f : sProp 𝕄)) $$ H
  icases H with ⟨%fs, H⟩
  ihave H := (Entails.of_eq (bigSep_sep' Finset.univ (fun t => iprop(⌜P t (fs t)⌝ : sProp 𝕄)) (fun t => iprop(ℓ ↦[K t]{fullShare} fs t)))) $$ H
  icases H with ⟨Hp, H⟩
  ihave %hp := (all_pure Finset.univ fun t => P t (fs t)) $$ Hp
  ihave H := (pointsTo_biUnion_join Finset.univ K fs f₀ (fun t _ t' _ e => h.apart t t' e)) $$ H
  icases H with ⟨%g, %hg, H⟩
  iexists g
  isplitr
  · ipureintro; intro t
    exact hP t _ _ (hg t (Finset.mem_univ t)) (hp t (Finset.mem_univ t))
  · rw [show Finset.univ.biUnion K = Finset.univ from by ext i; simpa using h.cover i]
    iexact H

end Cut

/-! ## The scratch buffers -/

/-- The rows of a chunk of a scratch buffer. -/
theorem rows_mem (k : Fin 16) (i : S1024x1024.Idx) : i ∈ (rowsRect k).set ↔ 64 * k.val ≤ (i 0).val ∧ (i 0).val < 64 * k.val + 64 := by
  rw [Rect.mem_set_unit]
  constructor
  · intro h; exact h 0
  · intro h a
    fin_cases a
    · exact h
    · exact ⟨Nat.zero_le _, by have := (i 1).isLt; simpa using this⟩

/-- Different chunks have different rows. -/
theorem rows_apart (k k' : Fin 16) (h : k ≠ k') : Disjoint (rowsRect k).set (rowsRect k').set := by
  rw [Finset.disjoint_left]; intro i hi hi'
  rw [rows_mem] at hi hi'
  exact h (Fin.ext (by omega))

/-- Every row is in some chunk. -/
theorem rows_cover (i : S1024x1024.Idx) : ∃ k, i ∈ (rowsRect k).set := by
  have : (i 0).val < 1024 := (i 0).isLt
  exact ⟨⟨(i 0).val / 64, by omega⟩, by rw [rows_mem]; dsimp only; omega⟩

/-- The chunks of a scratch buffer make it up. -/
theorem chunk_cuts {e : EltTy} (M : Memref sig .tc .vmem S1024x1024 e) (h : M.IsWhole) (c : Dev nD) :
    Cuts (ℓ := M.view.loc (c : Thread nD τ)) fun k => (chunk M k).view.set where
  apart k k' hk := by
    show Disjoint (M.view.slice (rowsRect k)).set (M.view.slice (rowsRect k')).set
    rw [View.set_slice, View.set_slice, Finset.disjoint_map]
    exact rows_apart k k' hk
  cover i := by
    have hi : i ∈ M.view.set := by rw [h.set_eq_univ]; exact Finset.mem_univ i
    obtain ⟨j, -, rfl⟩ := Finset.mem_map.mp hi
    obtain ⟨k, hk⟩ := rows_cover j
    refine ⟨k, ?_⟩
    show M.view.emb j ∈ (M.view.slice (rowsRect k)).set
    rw [View.set_slice]
    exact Finset.mem_map_of_mem _ hk

/-- A part of a buffer holds something. -/
theorem any_intro (c : Dev nD) {sp : Space} {s : Shape} {e : EltTy} (M : Memref sig .tc sp s e) (f : Buf (Elt F) (M.view.loc (c : Thread nD τ))) :
    (M.view.loc (c : Thread nD τ) ↦[M.view.set]{fullShare} f : sProp 𝕄) ⊢ anyAt c M := by
  unfold anyAt; iintro H; iexists f; iexact H

/-- A scratch buffer is cut into its chunks, -/
theorem scratch_cut {e : EltTy} (M : Memref sig .tc .vmem S1024x1024 e) (h : M.IsWhole) (c : Dev nD) :
    iprop(∃ f, (M.view.loc (c : Thread nD τ) ↦{fullShare} f)) ⊢ (bigSep Finset.univ fun k => anyAt c (chunk M k) : sProp 𝕄) := by
  iintro ⟨%f, H⟩
  ihave H := (Entails.of_eq (cut_eq (chunk_cuts M h c) f)) $$ H
  iapply (show (bigSep Finset.univ fun k => (M.view.loc (c : Thread nD τ)) ↦[(chunk M k).view.set]{fullShare} f : sProp 𝕄)
    ⊢ bigSep Finset.univ fun k => anyAt c (chunk M k) from bigSep_mono fun k _ => any_intro c (chunk M k) f)
  iexact H

/-- and its chunks make it up. -/
theorem scratch_join {e : EltTy} (M : Memref sig .tc .vmem S1024x1024 e) (h : M.IsWhole) (c : Dev nD) (f₀ : Buf (Elt F) (M.view.loc (c : Thread nD τ))) :
    (bigSep Finset.univ fun k => anyAt c (chunk M k) : sProp 𝕄) ⊢ iprop(∃ f, (M.view.loc (c : Thread nD τ) ↦{fullShare} f)) := by
  refine BIBase.Entails.trans (BIBase.Entails.trans (bigSep_mono fun k _ => show anyAt c (chunk M k) ⊢
    iprop(∃ f : Buf (Elt F) (M.view.loc (c : Thread nD τ)), ⌜True⌝ ∗ (M.view.loc (c : Thread nD τ) ↦[(chunk M k).view.set]{fullShare} f)) from ?_)
    (cut_join (chunk_cuts M h c) (fun _ _ => True) (fun _ _ _ _ _ => trivial) f₀)) ?_
  · unfold anyAt; iintro ⟨%f, H⟩; iexists f; isplitr; · (ipureintro; trivial)
    iexact H
  · iintro ⟨%g, -, H⟩; iexists g; iexact H

/-! ## The block of `x` -/

/-- The rows a device gives away begin where its x-neighbour's kept rows begin. -/
theorem off_xp : ∀ (c : Dev nD) (k : Fin 16), k0_off1 c (BitVec.ofNat 32 (64 * k.val)) = k0_off2 (xp c) (BitVec.ofNat 32 (64 * k.val)) := by
  intro c k; rw [k0_off1_eq, k0_off2_eq]; revert c k; decide +kernel

/-- The rows a device gives away are the rows its x-neighbour keeps. -/
theorem xOth_set (c : Dev nD) (k : Fin 16) : ((xOth c k).view.set : Finset S1x2048x1024.Idx) = (xMe (xp c) k).view.set := by
  have h : ∀ (o o' : Fin 3 → Nat) (p p'), o = o' →
      (((xM.slice (Rect.unit (s := S1x2048x1024) o S1x64x1024.size p) (fun _ => rfl)).squeeze S64x1024 squeezes_S1x64x1024_S64x1024).view.set : Finset S1x2048x1024.Idx)
      = ((xM.slice (Rect.unit (s := S1x2048x1024) o' S1x64x1024.size p') (fun _ => rfl)).squeeze S64x1024 squeezes_S1x64x1024_S64x1024).view.set := by
    rintro o o' p p' rfl; rfl
  exact h _ _ _ _ (off_xp c k)

/-- and reading them is the same. -/
theorem xOth_read (c : Dev nD) (k : Fin 16) (f : S1x2048x1024.Idx → Elt F .f32) : (xOth c k).view.read (Elt F) f = (xMe (xp c) k).view.read (Elt F) f := by
  have h : ∀ (o o' : Fin 3 → Nat) (p p'), o = o' →
      ((xM.slice (Rect.unit (s := S1x2048x1024) o S1x64x1024.size p) (fun _ => rfl)).squeeze S64x1024 squeezes_S1x64x1024_S64x1024).view.read (Elt F) f
      = ((xM.slice (Rect.unit (s := S1x2048x1024) o' S1x64x1024.size p') (fun _ => rfl)).squeeze S64x1024 squeezes_S1x64x1024_S64x1024).view.read (Elt F) f := by
    rintro o o' p p' rfl; rfl
  exact h _ _ _ _ (off_xp c k)

/-- The rows of a chunk of the half of `x` that a device keeps. -/
theorem xMe_mem (c : Dev nD) (k : Fin 16) (i : S1x2048x1024.Idx) :
    i ∈ (Rect.unit (s := S1x2048x1024) (k0_off2 c (BitVec.ofNat 32 (64 * k.val))) S1x64x1024.size (k0_off2_inb c k)).set
      ↔ 1024 * (c.val / 2) + 64 * k.val ≤ (i 1).val ∧ (i 1).val < 1024 * (c.val / 2) + 64 * k.val + 64 := by
  rw [Rect.mem_set_unit, k0_off2_eq]
  constructor
  · intro h; exact h 1
  · intro h a
    fin_cases a
    · exact ⟨Nat.zero_le _, by have := (i 0).isLt; simpa using this⟩
    · exact h
    · exact ⟨Nat.zero_le _, by have := (i 2).isLt; simpa using this⟩

/-- The piece of a device's block of `x` that holds the rows of chunk `k` of a half. -/
def xSet (c : Dev nD) (t : Bool × Fin 16) : Finset S1x2048x1024.Idx := (xMe (if t.1 then c else xp c) t.2).view.set

/-- The rows of a chunk of either half. -/
theorem xSet_mem (c : Dev nD) (t : Bool × Fin 16) (i : S1x2048x1024.Idx) : i ∈ xSet c t
    ↔ 1024 * ((if t.1 then c else xp c).val / 2) + 64 * t.2.val ≤ (i 1).val ∧ (i 1).val < 1024 * ((if t.1 then c else xp c).val / 2) + 64 * t.2.val + 64 := by
  rw [← xMe_mem]
  unfold xSet
  generalize (if t.1 then c else xp c) = d
  rw [show (xMe d t.2).view.set = (Rect.unit (s := S1x2048x1024) (k0_off2 d (BitVec.ofNat 32 (64 * t.2.val))) S1x64x1024.size (k0_off2_inb d t.2)).set from
    (View.set_reshape _ _).trans (View.set_slice_whole main_arg0 _)]

/-- The x-neighbour keeps the other half. -/
theorem half_xp : ∀ c : Dev nD, (xp c).val / 2 = 1 - c.val / 2 := by decide +kernel
/-- The y-neighbour keeps the same half. -/
theorem half_yp : ∀ c : Dev nD, (yp c).val / 2 = c.val / 2 := by decide +kernel
/-- The x-neighbour has the same columns. -/
theorem side_xp : ∀ c : Dev nD, (xp c).val % 2 = c.val % 2 := by decide +kernel
/-- The y-neighbour has the other columns. -/
theorem side_yp : ∀ c : Dev nD, (yp c).val % 2 = 1 - c.val % 2 := by decide +kernel
/-- There are four devices. -/
theorem dev_lt (c : Dev nD) : c.val < 4 := c.isLt

/-- The chunks of the two halves cut up `x`. -/
theorem x_cuts (c : Dev nD) : Cuts (ℓ := (c : Thread nD τ).loc main_arg0) (xSet c) where
  apart := by
    rintro ⟨b, k⟩ ⟨b', k'⟩ h
    rw [Finset.disjoint_left]; intro i hi hi'
    have hi := (xSet_mem c _ i).mp hi
    have hi' := (xSet_mem c _ i).mp hi'
    have := half_xp c; have : k0_dev1 c / 2 = 1 - c.val / 2 := half_xp c; have := dev_lt c; have := k.isLt; have := k'.isLt
    apply h
    cases b <;> cases b' <;> simp only [if_true, Bool.false_eq_true, if_false] at hi hi' <;>
      first
        | exact Prod.ext rfl (Fin.ext (by dsimp only; omega))
        | (exfalso; omega)
  cover i := by
    have : ((i : S1x2048x1024.Idx) 1).val < 2048 := ((i : S1x2048x1024.Idx) 1).isLt
    have := half_xp c; have : k0_dev1 c / 2 = 1 - c.val / 2 := half_xp c; have := dev_lt c
    by_cases h : ((i : S1x2048x1024.Idx) 1).val / 1024 = c.val / 2
    · refine ⟨(true, ⟨((i : S1x2048x1024.Idx) 1).val % 1024 / 64, by omega⟩), (xSet_mem c _ i).mpr ?_⟩
      simp only [if_true]; omega
    · refine ⟨(false, ⟨((i : S1x2048x1024.Idx) 1).val % 1024 / 64, by omega⟩), (xSet_mem c _ i).mpr ?_⟩
      simp only [Bool.false_eq_true, if_false]; omega

/-- One thing for each half, listed. -/
theorem both_eq (Φ : Bool → sProp 𝕄) : bigSep Finset.univ Φ = iprop(Φ false ∗ Φ true) := bigSep_univ_eq_bigSepL [false, true] (by decide) (by decide) Φ

/-- The device's block of `x` is the two halves' chunks. -/
theorem x_cut (c : Dev nD) (f : Buf (Elt F) ((c : Thread nD τ).loc main_arg0)) : ((c : Thread nD τ).loc main_arg0 ↦{fullShare} f : sProp 𝕄)
    = bigSep Finset.univ fun k => iprop(xPart c (xOth c k) f ∗ xPart c (xMe c k) f) := by
  rw [cut_eq (x_cuts c), bigSep_univ_prod, both_eq, ← bigSep_sep']
  refine bigSep_congr fun k _ => ?_
  unfold xPart
  show iprop(((c : Thread nD τ).loc main_arg0 ↦[xSet c (false, k)]{fullShare} f) ∗ _) = iprop(((c : Thread nD τ).loc main_arg0 ↦[(xOth c k).view.set]{fullShare} f) ∗ _)
  rw [show xSet c (false, k) = (xOth c k).view.set from (xOth_set c k).symm]
  rfl

/-! ## The result -/

/-- The tile the device's x-neighbour computes. -/
theorem outOx_eq (c : Dev nD) (k : Fin 16) : outOx c k = outMe (xp c) k := by
  have h : ∀ (o o' : Fin 2 → Nat) (p p'), o = o' →
      outM.slice (Rect.unit (s := S2048x2048) o S64x1024.size p) (fun _ => rfl) = outM.slice (Rect.unit (s := S2048x2048) o' S64x1024.size p') (fun _ => rfl) := by
    rintro o o' p p' rfl; rfl
  exact h _ _ _ _ (by rw [k0_off3_eq, k0_off4_eq]; revert c k; decide +kernel)

/-- The elements of chunk `k` of the tile the device `d` computes. -/
def outSet (t : Dev nD × Fin 16) : Finset S2048x2048.Idx := (outMe t.1 t.2).view.set

/-- The rows and columns of a chunk of a device's tile of the result. -/
theorem outSet_mem (t : Dev nD × Fin 16) (i : S2048x2048.Idx) : i ∈ outSet t
    ↔ (1024 * (t.1.val / 2) + 64 * t.2.val ≤ (i 0).val ∧ (i 0).val < 1024 * (t.1.val / 2) + 64 * t.2.val + 64)
      ∧ 1024 * (t.1.val % 2) ≤ (i 1).val ∧ (i 1).val < 1024 * (t.1.val % 2) + 1024 := by
  unfold outSet
  rw [show (outMe t.1 t.2).view.set = (Rect.unit (s := S2048x2048) (k0_off3 t.1 (BitVec.ofNat 32 (64 * t.2.val))) S64x1024.size (k0_off3_inb t.1 t.2)).set from
    View.set_slice_whole main_v1 _, Rect.mem_set_unit, k0_off3_eq]
  constructor
  · intro h; exact ⟨h 0, h 1⟩
  · rintro ⟨h, h'⟩ a
    fin_cases a
    · exact h
    · exact h'

/-- The chunks of the four tiles cut up the result. -/
theorem out_cuts (c : Dev nD) : Cuts (ℓ := (c : Thread nD τ).loc main_v1) outSet where
  apart := by
    rintro ⟨d, k⟩ ⟨d', k'⟩ h
    rw [Finset.disjoint_left]; intro i hi hi'
    have hi := (outSet_mem _ i).mp hi
    have hi' := (outSet_mem _ i).mp hi'
    dsimp only at hi hi'
    have := k.isLt; have := k'.isLt
    have hd : d.val = d'.val := by omega
    obtain rfl : d = d' := Fin.ext hd
    exact h (Prod.ext rfl (Fin.ext (by dsimp only; omega)))
  cover i := by
    have h0 : ((i : S2048x2048.Idx) 0).val < 2048 := ((i : S2048x2048.Idx) 0).isLt
    have h1 : ((i : S2048x2048.Idx) 1).val < 2048 := ((i : S2048x2048.Idx) 1).isLt
    refine ⟨(⟨2 * (((i : S2048x2048.Idx) 0).val / 1024) + ((i : S2048x2048.Idx) 1).val / 1024, by show _ < 4; omega⟩, ⟨((i : S2048x2048.Idx) 0).val % 1024 / 64, by omega⟩), ?_⟩
    refine (outSet_mem _ i).mpr ?_
    dsimp only
    omega

/-- The four devices, as one of them sees them. -/
theorem four : ∀ c : Dev nD, (Finset.univ : Finset (Dev nD)) = [c, xp c, yp c, xp (yp c)].toFinset ∧ [c, xp c, yp c, xp (yp c)].Nodup := by decide +kernel

/-- One thing for each device, listed from one of them. -/
theorem four_eq (Φ : Dev nD → sProp 𝕄) (c : Dev nD) : bigSep Finset.univ Φ = iprop(Φ c ∗ Φ (xp c) ∗ Φ (yp c) ∗ Φ (xp (yp c))) :=
  bigSep_univ_eq_bigSepL _ (four c).1 (four c).2 Φ

/-- The part of the result that a chunk of a tile covers is that chunk, holding something. -/
theorem out_piece (c d : Dev nD) (k : Fin 16) (f : Buf (Elt F) ((c : Thread nD τ).loc main_v1)) :
    ((c : Thread nD τ).loc main_v1 ↦[outSet (d, k)]{fullShare} f : sProp 𝕄) ⊢ anyAt c (outMe d k) := by
  unfold anyAt; iintro H; iexists f; iexact H

/-- The result is cut into the four tiles' chunks, -/
theorem out_cut (c : Dev nD) (f : Buf (Elt F) ((c : Thread nD τ).loc main_v1)) : ((c : Thread nD τ).loc main_v1 ↦{fullShare} f : sProp 𝕄)
    ⊢ bigSep Finset.univ fun k => iprop(anyAt c (outMe c k) ∗ anyAt c (outOx c k) ∗ anyAt c (outMe (yp c) k) ∗ anyAt c (outOx (yp c) k)) := by
  rw [cut_eq (out_cuts c), bigSep_univ_prod, four_eq _ c]
  rw [← bigSep_sep', ← bigSep_sep', ← bigSep_sep']
  refine bigSep_mono fun k _ => ?_
  rw [outOx_eq, outOx_eq]
  exact Idealize.SL.BI.sep_mono (out_piece c c k f) (Idealize.SL.BI.sep_mono (out_piece c _ k f) (Idealize.SL.BI.sep_mono (out_piece c _ k f) (out_piece c _ k f)))

variable (m : (ℓ : Loc nD τ sig) → Buf (Elt F) ℓ)

/-- What the result holds: in chunk `k` of the tile of `d`, the sum that `d` computes. -/
def Result (c : Dev nD) (g : Buf (Elt F) ((c : Thread nD τ).loc main_v1)) : Prop :=
  ∀ (d : Dev nD) (k : Fin 16), (outMe d k).view.read (Elt F) g = tilV m d k

/-- and the four tiles make it up. -/
theorem out_join (c : Dev nD) :
    (bigSep Finset.univ fun k => iprop(has c (outMe c k) fullShare (tilV m c k) ∗ has c (outOx c k) fullShare (tilV m (xp c) k)
        ∗ has c (outMe (yp c) k) fullShare (tilV m (yp c) k) ∗ has c (outOx (yp c) k) fullShare (tilV m (xp (yp c)) k)) : sProp 𝕄)
      ⊢ iprop(∃ g, ⌜Result m c g⌝ ∗ ((c : Thread nD τ).loc main_v1 ↦{fullShare} g)) := by
  refine BIBase.Entails.trans ?_ (BIBase.Entails.trans (cut_join (out_cuts c) (fun t g => (outMe t.1 t.2).view.read (Elt F) g = tilV m t.1 t.2)
    (fun t f g h hf => (View.read_congr h).trans hf) (m _)) ?_)
  · rw [bigSep_univ_prod, four_eq _ c]
    rw [← bigSep_sep', ← bigSep_sep', ← bigSep_sep']
    refine bigSep_mono fun k _ => ?_
    rw [outOx_eq, outOx_eq]
    exact (show (_ : sProp 𝕄) ⊢ _ from Entails.of_eq rfl)
  · iintro ⟨%g, %h, H⟩
    iexists g
    isplitr
    · ipureintro; exact fun d k => h (d, k)
    · iexact H

end Cert.KernelIdeal.Own

end
-- ==== Proof.Run.lean ====
module

public import proofs.«01_k».proof.Proof.Tiles
public import proofs.«01_k».proof.Proof.Gen.KernelIdeal.Points
public import Idealize.ShloMosaic.Lib.Quiescent
public import Idealize.ShloMosaic.Lib.Pipeline.CollectiveSegs

@[expose] public section

set_option maxRecDepth 16384

/-! # The run

The launch: the semaphores' schedules set up, every device given what its body begins with, and what the memory is left
holding read off at the end. -/

noncomputable section

namespace Cert.KernelIdeal.Own

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Pipeline
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The two ends of the body -/

/-- What a device holds when its body begins. -/
def first (c : Dev nD) : sProp 𝕄 := iprop(∃ K, world m K ∗ barBefore c ∗ bigSep Finset.univ (before m c))

/-- All of a device's DMA semaphores, at zero. -/
def dmaZero (c : Dev nD) : sProp 𝕄 := bigSep Finset.univ fun k : Fin 16 => bigSep Finset.univ fun a : Fin 12 => semVal (cellG c a k) 0

/-- What it holds when its body ends: its memory, and its semaphores at zero. -/
def last (c : Dev nD) : sProp 𝕄 :=
  iprop(bigSep Finset.univ (memAfter m c) ∗ semVal (barCell c) 0 ∗ dmaZero c)

/-- No window is staged; what the body begins and ends with is said above. -/
def dats (_ : Fin 1) (c : Dev nD) : Dat τ (Elt F) Unit ℕ UU ℕ cfg0 c where
  A w := w.elim0
  after w _ := w.elim0
  Φ t := match t with
    | ⟨0, _⟩ => first m c
    | ⟨_ + 1, _⟩ => last m c
  q _ := fullShare
  owed t := match t with
    | ⟨0, _⟩ => O₀ c
    | ⟨_ + 1, _⟩ => 0

/-- The body of device `c`, run from the one to the other. -/
theorem body_runs (c : Dev nD) : iprop(first m c ∗ (dats m 0 c).owesAt () t0_0.castSucc)
    ⊢ (Wp c (fun _ => iprop(last m c ∗ (dats m 0 c).owesAt () t0_0.succ ∗ emp)) (Gen.bodyAt0 (F := F) t0_0) : sProp 𝕄) := by
  rw [body_eq]
  simp only [Wp, wp_deviceId]
  unfold first Dat.owesAt Pipeline.owesWithin
  rw [show (dats m 0 c).owed t0_0.castSucc = O₀ c from rfl, show (dats m 0 c).owed t0_0.succ = 0 from rfl]
  iintro ⟨⟨%K, #Hw, Hbar, HB⟩, ⟨%W, -, Ho⟩⟩
  iapply (body_step m c K) $$ [Ho Hbar HB]
  · isplitr; · iexact Hw
    isplitl [Ho]; · unfold ow; iexists W; iexact Ho
    isplitl [Hbar] <;> iassumption
  iintro ⟨Ho, Hbar, HA⟩
  ihave HA := (chunks_split (C := after m c) (A := memAfter m c) (B := fun k => bigSep Finset.univ fun a => done' c a k)
    (fun k => Entails.of_eq rfl)) $$ HA
  icases HA with ⟨Hmem, Hdone⟩
  imod (close_all m c K) $$ [Hdone] with Hz
  · isplitr; · iexact Hw
    iexact Hdone
  imod (close_cell m K (c, .inl ())) $$ [Hbar] with Hzb
  · isplitr; · iexact Hw
    iexact Hbar
  unfold ow
  icases Ho with ⟨%W', Ho⟩
  simp only [Wp]; rw [wp_ret]; imodintro
  isplitr [Ho]
  · unfold last dmaZero
    isplitl [Hmem]; · iexact Hmem
    isplitl [Hzb] <;> iassumption
  isplitl [Ho]
  · iexists W'
    isplitr
    · ipureintro; exact fun _ _ => Or.inl trivial
    · iexact Ho
  · iempintro

/-- Over no window there is nothing. -/
theorem no_windows (Φ : Fin 0 → sProp 𝕄) : bigSep Finset.univ Φ = iprop(emp) := by
  rw [Finset.univ_eq_empty, bigSep_empty]; rfl

/-- A conjunct of nothing, dropped from what a program starts with. -/
theorem drop_emp {A B : sProp 𝕄} (c : Dev nD) {Q : PUnit.{1} → sProp (MT nD τ sig Unit (Elt F) ℕ UU ℕ)}
    (p : Prog (TpuEff nD τ sig (Elt F) Λ₀ .tc) PUnit) (h : iprop(A ∗ B) ⊢ (Wp c Q p : sProp 𝕄)) :
    iprop(A ∗ B ∗ emp) ⊢ (Wp c Q p : sProp 𝕄) := by
  refine BIBase.Entails.trans ?_ h
  iintro ⟨HA, HB, -⟩
  isplitl [HA] <;> iassumption

/-- The body that the pipeline calls. -/
theorem the_body : (defs₀ (F := F)) .tc cfg0.body (cfg0.bodyArgs t0_0 (cfg0.slots t0_0)) = Gen.bodyAt0 (F := F) t0_0 := rfl

/-- The library's obligation for the body. -/
theorem body_obligation (c : Dev nD) : BodyObligation (dats (F := F) m 0 c) (defs₀ (F := F)) 𝒱₀ () Set.univ := fun t => by
  rw [fin_N0 t]
  rw [show ∀ Φ : Fin cfg0.W → sProp 𝕄, bigSep Finset.univ Φ = iprop(emp) from no_windows]
  simp only [show ∀ Φ : Fin cfg0.W → sProp 𝕄, bigSep Finset.univ Φ = iprop(emp) from no_windows]
  rw [the_body]
  generalize hp : Gen.bodyAt0 (F := F) t0_0 = p
  refine drop_emp c p ?_
  have h := body_runs m c
  rw [hp] at h
  rw [show (dats m 0 c).Φ t0_0.castSucc = first m c from rfl]
  rw [show (dats m 0 c).Φ t0_0.succ = last m c from rfl]
  exact h

/-! ## The semaphores' schedules set up -/

/-- The DMA semaphores, as the kernel's own. -/
abbrev osem (i : Fin 12 × Fin 16) : SemLoc sig := .dma (sem i.1 i.2)

/-- Different kinds or chunks have different semaphores. -/
theorem sem_inj {a a' : Fin 12} {k k' : Fin 16} (h : sem a k = sem a' k') : (a, k) = (a', k') :=
  Prod.ext ((kindOf_sem a k).symm.trans ((congrArg kindOf h).trans (kindOf_sem a' k'))) ((rowOf_sem a k).symm.trans ((congrArg rowOf h).trans (rowOf_sem a' k')))

/-- The DMA semaphores are the kernel's own, all different, none of them a window's. -/
theorem ownSemFacts : Pipeline.OwnSemFacts cfg0.spec osem where
  isScoped := by decide
  inj i i' h := sem_inj (SemLoc.dma.inj h)
  disj _ w := w.elim0

/-- A device's semaphores, listed by barrier, kind and chunk, are all different. -/
theorem locAt_inj : Function.Injective locAt := by
  rintro (⟨⟩ | ⟨a, k⟩) (⟨⟩ | ⟨a', k'⟩) h
  · rfl
  · cases h
  · cases h
  · exact congrArg Sum.inr (sem_inj (SemLoc.dma.inj h))
/-- So are those of all the devices. -/
theorem cellOfIx_inj : Function.Injective (cellOfIx : Dev nD × CI → GSem nD τ sig) := by
  rintro ⟨c, i⟩ ⟨c', i'⟩ h
  obtain rfl : c = c' := congrArg (fun g : GSem nD τ sig => g.1.1) h
  exact Prod.ext rfl (locAt_inj (congrArg Prod.snd h))
def allCells : Finset (GSem nD τ sig) := Finset.univ.map ⟨cellOfIx, cellOfIx_inj⟩

/-- A device's duties: its barrier's two, and one of every kind and chunk. -/
abbrev TI : Type := Bool ⊕ (Fin 12 × Fin 16)
abbrev tokOf : Dev nD × TI → GSem nD τ sig × ℕ × Bool
  | (c, .inl b) => (barCell c, 0, b)
  | (c, .inr (a, k)) => (cellG c a k, 0, false)
/-- Every payment is listed once. -/
theorem tokOf_inj : Function.Injective tokOf := by
  rintro ⟨c, i⟩ ⟨c', i'⟩ h
  obtain rfl : c = c' := by
    have := congrArg (fun x : GSem nD τ sig × ℕ × Bool => x.1.1.1) h
    rcases i with b | ⟨a, k⟩ <;> rcases i' with b' | ⟨a', k'⟩ <;> exact this
  rcases i with b | ⟨a, k⟩ <;> rcases i' with b' | ⟨a', k'⟩
  · have hb : b = b' := congrArg (fun x : GSem nD τ sig × ℕ × Bool => x.2.2) h
    rw [hb]
  · exact absurd (congrArg (fun x : GSem nD τ sig × ℕ × Bool => x.1.2) h) (fun h' => by cases h')
  · exact absurd (congrArg (fun x : GSem nD τ sig × ℕ × Bool => x.1.2) h) (fun h' => by cases h')
  · have hs : SemLoc.dma (sem a k) = SemLoc.dma (sem a' k') := congrArg (fun x : GSem nD τ sig × ℕ × Bool => x.1.2) h
    rw [sem_inj (SemLoc.dma.inj hs)]
def allToks : Finset (GSem nD τ sig × ℕ × Bool) := Finset.univ.map ⟨tokOf, tokOf_inj⟩

/-- The ghost state the launch begins from. -/
def u₀ : UU :=
  (initOf (Pipeline.cells cfgs cellOf_inj) (Pipeline.launchToks cfgs cellOf_inj), initOf allCells allToks)

/-- The tokens of the duties at a device's own semaphores. -/
def ownToks (c : Dev nD) : sProp 𝕄 := bigSep Finset.univ fun i : TI => dutyTok ER (tokOf (c, i)).1 (tokOf (c, i)).2.1 (tokOf (c, i)).2.2
/-- The tokens of the duties a device pays. -/
def payToks (c : Dev nD) : sProp 𝕄 :=
  iprop((dutyTok ER (barCell (xp c)) 0 true ∗ dutyTok ER (barCell (yp c)) 0 false) ∗ bigSep Finset.univ (duties c))

/-- What the launch deals a device. -/
def G (c : Dev nD) : sProp 𝕄 :=
  iprop((bigSep Finset.univ fun i : CI => roundState ER (Rd m) (cellOfIx (c, i)) 0)
    ∗ ((bigSep Finset.univ fun i : CI => atPos ER (cellOfIx (c, i)) 0 ∅ 0) ∗ bigSep Finset.univ fun i : CI => reached ER (cellOfIx (c, i)) 0) ∗ ownToks c)
/-- What all devices together make of it. -/
def G' (c : Dev nD) : sProp 𝕄 :=
  iprop((∃ K, records m K) ∗ (bigSep Finset.univ fun i : CI => atPos ER (cellOfIx (c, i)) 0 ∅ 0) ∗ payToks c)

/-- The schedules' starting resources, given out device by device. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun i : CI => Φ (cellOfIx (c, i)) := by
    unfold allCells; rw [bigSep_map, bigSep_univ_prod]; rfl
  have hT : bigSep allToks (fun x => (dutyTok ER x.1 x.2.1 x.2.2 : sProp 𝕄)) = bigSep Finset.univ fun c : Dev nD => ownToks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- Of a device's semaphores, the barrier alone is not the kernel's own. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- What is held for each of a device's semaphores: the barrier's, and those of the kinds and chunks. -/
theorem each_cell (Φ : CI → sProp 𝕄) : bigSep Finset.univ Φ
    = iprop(Φ (.inl ()) ∗ bigSep Finset.univ fun i : Fin 12 × Fin 16 => Φ (.inr i)) := by
  rw [bigSep_univ_sum]
  show iprop(bigSep Finset.univ (fun u : Unit => Φ (.inl u)) ∗ _) = _
  rw [bigSep_univ_eq_bigSepL [()] (by decide) (by decide)]; rfl

/-- A thing for each kind and chunk, chunk by chunk. -/
theorem by_chunk (Φ : Fin 12 × Fin 16 → sProp 𝕄) : bigSep Finset.univ Φ
    = bigSep Finset.univ fun k : Fin 16 => bigSep Finset.univ fun a : Fin 12 => Φ (a, k) := by
  rw [bigSep_univ_equiv (Equiv.prodComm (Fin 16) (Fin 12)), bigSep_univ_prod]; rfl

/-- A device's semaphores at zero, listed the same way. -/
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun i : CI => semVal (cellOfIx (c, i)) 0 : sProp 𝕄) := by
  rw [unscopedSems0_eq, each_cell]
  unfold Pipeline.ownSems0
  iintro ⟨H, Hb⟩
  isplitl [Hb] <;> iassumption

/-- The schedules of a device's semaphores, under some names. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CI => iprop(∃ κ : ℕ, cellInv ER (Rd m) κ (cellOfIx (c, i))))
          ∗ ((bigSep Finset.univ fun i : CI => atPos ER (cellOfIx (c, i)) 0 ∅ 0) ∗ bigSep Finset.univ fun i : CI => reached ER (cellOfIx (c, i)) 0) ∗ ownToks c) := by
  unfold G
  iintro ⟨Hos, Hus, Hst, Hat, Htok⟩
  ihave Hv := (sems_eq (F := F) c) $$ [Hos Hus]
  · isplitl [Hos] <;> iassumption
  imod (show iprop((bigSep Finset.univ fun i : CI => semVal (cellOfIx (c, i)) 0) ∗ bigSep Finset.univ fun i : CI => roundState ER (Rd m) (cellOfIx (c, i)) 0)
      ⊢ (|={Set.univ}=> bigSep Finset.univ fun i => iprop(∃ κ : ℕ, cellInv ER (Rd m) κ (cellOfIx (c, i))) : sProp 𝕄) from by
        rw [← bigSep_sep']
        exact (bigSep_mono fun i _ => (Rounds.body_intro ER (Rd m) (cellOfIx (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The two neighbour maps, each its own inverse. -/
def xpE : Dev nD ≃ Dev nD := ⟨xp, xp, xp_xp, xp_xp⟩
def ypE : Dev nD ≃ Dev nD := ⟨yp, yp, yp_yp, yp_yp⟩

/-- A device's payments: the two to its barrier, and one to each of its DMA semaphores. -/
theorem ownToks_eq (c : Dev nD) : (ownToks c : sProp 𝕄) = iprop((dutyTok ER (barCell c) 0 false ∗ dutyTok ER (barCell c) 0 true)
    ∗ bigSep Finset.univ fun a : Fin 12 => bigSep Finset.univ fun k : Fin 16 => tok c a k) := by
  unfold ownToks
  rw [bigSep_univ_sum, bigSep_univ_prod, both_eq]; rfl

/-- The tokens dealt to the devices that pay with them. -/
theorem toks_around : (bigSep Finset.univ fun c : Dev nD => (ownToks c : sProp 𝕄)) ⊢ bigSep Finset.univ fun c : Dev nD => payToks c := by
  simp only [ownToks_eq, kinds_eq]
  unfold payToks duties
  simp only [bigSep_sep']
  rw [bigSep_univ_equiv xpE (fun c : Dev nD => (dutyTok ER (barCell c) 0 true : sProp 𝕄)),
    bigSep_univ_equiv ypE (fun c : Dev nD => (dutyTok ER (barCell c) 0 false : sProp 𝕄)),
    bigSep_univ_equiv xpE (fun c : Dev nD => bigSep Finset.univ fun k : Fin 16 => (tok (F := F) c 5 k)),
    bigSep_univ_equiv xpE (fun c : Dev nD => bigSep Finset.univ fun k : Fin 16 => (tok (F := F) c 9 k)),
    bigSep_univ_equiv ypE (fun c : Dev nD => bigSep Finset.univ fun k : Fin 16 => (tok (F := F) c 7 k)),
    bigSep_univ_equiv ypE (fun c : Dev nD => bigSep Finset.univ fun k : Fin 16 => (tok (F := F) c 11 k))]
  iintro ⟨⟨Bf, Bt⟩, T0, T1, T2, T3, T4, T5, T6, T7, T8, T9, T10, T11⟩
  isplitl [Bf Bt]
  · isplitl [Bt]; · iexact Bt
    iexact Bf
  isplitl [T0 T1 T2 T3 T4 T6 T8 T10]
  · isplitl [T0]; · iexact T0
    isplitl [T1]; · iexact T1
    isplitl [T2]; · iexact T2
    isplitl [T3]; · iexact T3
    isplitl [T4]; · iexact T4
    isplitl [T6]; · iexact T6
    isplitl [T8]; · iexact T8
    iexact T10
  isplitl [T5 T9]
  · isplitl [T5]; · iexact T5
    iexact T9
  isplitl [T7]; · iexact T7
  iexact T11

/-- The records of all schedules go to every device. -/
theorem with_records (K : Dev nD × CI → ℕ) (c : Dev nD) :
    iprop(records m K ∗ ((bigSep Finset.univ fun i : CI => atPos ER (cellOfIx (c, i)) 0 ∅ 0) ∗ payToks c)) ⊢ (G' m c : sProp 𝕄) := by
  unfold G'
  iintro ⟨HR, Hat, Ht⟩
  isplitl [HR]; · iexists K; iexact HR
  isplitl [Hat] <;> iassumption

/-- The payments go from the device that is paid to the device that pays. -/
theorem regroup :
    (bigSep Finset.univ fun c : Dev nD => iprop((bigSep Finset.univ fun i : CI => iprop(∃ κ : ℕ, cellInv ER (Rd m) κ (cellOfIx (c, i))))
          ∗ ((bigSep Finset.univ fun i : CI => atPos ER (cellOfIx (c, i)) 0 ∅ 0) ∗ bigSep Finset.univ fun i : CI => reached ER (cellOfIx (c, i)) 0) ∗ ownToks c) : sProp 𝕄)
      ⊢ bigSep Finset.univ (G' m) := by
  simp only [bigSep_sep']
  rw [← bigSep_univ_prod (fun i : Dev nD × CI => iprop(∃ κ : ℕ, cellInv ER (Rd m) κ (cellOfIx i))),
    ← bigSep_univ_prod (fun i : Dev nD × CI => (reached ER (cellOfIx i) 0 : sProp 𝕄))]
  iintro ⟨HI, ⟨Hat, #HR⟩, Htok⟩
  ihave HK := (bigSep_exists_pi Finset.univ (fun (i : Dev nD × CI) (κ : ℕ) => (cellInv ER (Rd m) κ (cellOfIx i) : sProp 𝕄))) $$ HI
  icases HK with ⟨%K, #HI⟩
  ihave Htk := (toks_around (F := F)) $$ Htok
  iapply (show iprop(records m K ∗ bigSep Finset.univ fun c : Dev nD => iprop((bigSep Finset.univ fun i : CI => atPos ER (cellOfIx (c, i)) 0 ∅ 0) ∗ payToks c))
      ⊢ (bigSep Finset.univ (G' m) : sProp 𝕄) from bigSep_with_persistent fun c _ => with_records m K c)
  isplitr
  · unfold records; isplitl; · iexact HI
    iexact HR
  · simp only [bigSep_sep']
    isplitl [Hat]; · iexact Hat
    iexact Htk

/-- The step all devices take together: the semaphores put under their schedules, the tokens dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit the launch gives -/

/-- What every device owes its neighbour on one semaphore, every device is credited on its own. -/
theorem cred_x (c : Dev nD) (sm : SemLoc sig) (n : ℕ) :
    (launchCred (fun d => tallyAt ((xp d : Thread nD τ), sm) () n) c : sProp 𝕄) ⊢ cred (tallyAt ((c : Thread nD τ), sm) () n) :=
  launchCred_tallyAt sm xp xp xp_xp xp_xp () n c
/-- What the y-neighbour is owed at the start. -/
theorem cred_y (c : Dev nD) (sm : SemLoc sig) (n : ℕ) :
    (launchCred (fun d => tallyAt ((yp d : Thread nD τ), sm) () n) c : sProp 𝕄) ⊢ cred (tallyAt ((c : Thread nD τ), sm) () n) :=
  launchCred_tallyAt sm yp yp yp_yp yp_yp () n c

/-- The credit for a sum over chunks. -/
theorem cred_list (T : Dev nD → Fin 16 → CellTallies nD τ sig Unit) (Φ : Fin 16 → sProp 𝕄) (c : Dev nD)
    (h : ∀ k, (launchCred (fun d => T d k) c : sProp 𝕄) ⊢ Φ k) : ∀ ks, (launchCred (fun d => osum (T d) ks) c : sProp 𝕄) ⊢ sepL Φ ks
  | [] => by unfold osum sepL; rw [launchCred_zero]
  | k :: ks => by
    have ih := cred_list T Φ c h ks
    unfold osum sepL; rw [launchCred_add]
    iintro ⟨H, Hk⟩
    isplitl [Hk]
    · iapply (h k); iexact Hk
    · iapply (ih); iexact H
/-- The same, chunk by chunk. -/
theorem cred_chunks (T : Dev nD → Fin 16 → CellTallies nD τ sig Unit) (Φ : Fin 16 → sProp 𝕄) (c : Dev nD)
    (h : ∀ k, (launchCred (fun d => T d k) c : sProp 𝕄) ⊢ Φ k) : (launchCred (fun d => osum (T d) chunks) c : sProp 𝕄) ⊢ bigSep Finset.univ Φ := by
  rw [← sepL_chunks]; exact cred_list T Φ c h chunks

/-- A device is owed, for each chunk, its x-neighbour's and its y-neighbour's sum. -/
theorem cred_sum (c : Dev nD) (k : Fin 16) : (launchCred (fun d => owSum d k) c : sProp 𝕄) ⊢ iprop(crd c kAxR k ∗ crd c kAyR k) := by
  unfold owSum
  rw [launchCred_add]
  iintro ⟨HX, HY⟩
  isplitl [HX]
  · iapply (cred_x c (.dma (sem kAxR k)) N16); iexact HX
  · iapply (cred_y c (.dma (sem kAyR k)) N16); iexact HY

/-- All of it: the barrier's two units, and what the neighbours send. -/
theorem creds (c : Dev nD) : (launchCred O₀ c : sProp 𝕄) ⊢ iprop(cred (tallyAt (barCell c) () 2) ∗ bigSep Finset.univ (credits c)) := by
  have e : (O₀ : Dev nD → CellTallies nD τ sig Unit) = fun d => ((((osum (owFw d) chunks) + osum (owSum d) chunks) + osum (owRs d) chunks)
    + tallyAt ((yp d : Thread nD τ), .reg barS) () 1) + tallyAt ((xp d : Thread nD τ), .reg barS) () 1 := rfl
  rw [e, launchCred_add, launchCred_add, launchCred_add, launchCred_add]
  iintro ⟨⟨⟨⟨HF, HS⟩, HR⟩, HbY⟩, HbX⟩
  ihave HF := (cred_chunks owFw (fun k => crd c kFwR k) c (fun k => cred_y c (.dma (sem kFwR k)) N16)) $$ HF
  ihave HR := (cred_chunks owRs (fun k => crd c kRsR k) c (fun k => cred_x c (.dma (sem kRsR k)) N16)) $$ HR
  ihave HS := (cred_chunks owSum (fun k => iprop(crd c kAxR k ∗ crd c kAyR k)) c (fun k => cred_sum c k)) $$ HS
  ihave HbX := (cred_x c (.reg barS) 1) $$ HbX
  ihave HbY := (cred_y c (.reg barS) 1) $$ HbY
  isplitl [HbX HbY]
  · rw [show (tallyAt (barCell c) () 2 : CellTallies nD τ sig Unit) = tallyAt (barCell c) () 1 + tallyAt (barCell c) () 1 from (tallyAt_add _ _ 1 1).symm]
    iapply (cred_add _ _).2
    isplitl [HbX] <;> iassumption
  · unfold credits
    simp only [bigSep_sep']
    icases HS with ⟨HX, HY⟩
    isplitl [HR]; · iexact HR
    isplitl [HX]; · iexact HX
    isplitl [HY] <;> iassumption

/-! ## What goes in and what comes out -/

/-- What a device takes into the kernel. -/
def start (c : Dev nD) : sProp 𝕄 :=
  iprop(G' m c ∗ levAts L lv ∗ (cred (tallyAt (barCell c) () 2) ∗ bigSep Finset.univ (credits c))
    ∗ ((c : Thread nD τ).loc main_arg0 ↦{fullShare} m ((c : Thread nD τ).loc main_arg0)) ∗ ((c : Thread nD τ).loc main_v1 ↦{fullShare} m ((c : Thread nD τ).loc main_v1)))
/-- What it takes out of it: `x` as it was and the result. -/
def finish (c : Dev nD) : sProp 𝕄 :=
  iprop(unscopedSems0 c ∗ ((c : Thread nD τ).loc main_arg0 ↦{fullShare} xAt m c) ∗ ∃ g, ⌜Result m c g⌝ ∗ ((c : Thread nD τ).loc main_v1 ↦{fullShare} g))

/-- What every device starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Hm, Hlev, Hcr, -, HG⟩
  ihave Hc := (creds (F := F) c) $$ Hcr
  imodintro
  unfold start
  isplitl
  · isplitl [HG]; · iexact HG
    isplitl [Hlev]; · iexact Hlev
    isplitl [Hc]; · iexact Hc
    iexact Hm
  · iempintro

/-- Into the kernel. -/
theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = first m c from rfl, scopedRest0_eq]
  unfold start first G' payToks
  rw [each_cell, by_chunk]
  iintro ⟨⟨⟨⟨%K, #HR⟩, ⟨Hab, Hat⟩, ⟨Bx, By⟩, Hd⟩, #Hlev, ⟨Cb, Hc⟩, Hx, Hv⟩, -, S0, S1, S2, S3, S4, S5⟩
  ihave S0 := (scratch_cut othM (Memref.isWhole_whole _) c) $$ S0
  ihave S1 := (scratch_cut meM (Memref.isWhole_whole _) c) $$ S1
  ihave S2 := (scratch_cut sndM (Memref.isWhole_whole _) c) $$ S2
  ihave S3 := (scratch_cut rcvM (Memref.isWhole_whole _) c) $$ S3
  ihave S4 := (scratch_cut tilM (Memref.isWhole_whole _) c) $$ S4
  ihave S5 := (scratch_cut oxM (Memref.isWhole_whole _) c) $$ S5
  ihave Hx := (Entails.of_eq (x_cut c (xAt m c))) $$ Hx
  ihave Hv := (out_cut c _) $$ Hv
  iexists K
  isplitr
  · unfold world; isplitl; · iexact HR
    iexact Hlev
  isplitl [Bx By Cb Hab]
  · unfold barBefore
    isplitl [Bx]; · iexact Bx
    isplitl [By]; · iexact By
    isplitl [Cb] <;> iassumption
  · unfold before memBefore
    simp only [bigSep_sep']
    icases Hx with ⟨X1, X2⟩
    icases Hv with ⟨V1, V2, V3, V4⟩
    isplitl [S0 S1 S2 S3 S4 S5 X1 X2 V1 V2 V3 V4]
    · isplitl [X1 X2]
      · isplitl [X1] <;> iassumption
      isplitl [V1 V2 V3 V4]
      · isplitl [V1]; · iexact V1
        isplitl [V2]; · iexact V2
        isplitl [V3] <;> iassumption
      isplitl [S0]; · iexact S0
      isplitl [S1]; · iexact S1
      isplitl [S2]; · iexact S2
      isplitl [S3]; · iexact S3
      isplitl [S4] <;> iassumption
    isplitl [Hd]; · iexact Hd
    isplitl [Hc] <;> iassumption

/-- Out of the kernel. -/
theorem last_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = last m c from rfl, scopedRest0_eq]
  unfold last finish Pipeline.ownSems0 dmaZero memAfter
  rw [unscopedSems0_eq, by_chunk]
  iintro ⟨Hm, Hb, Hz⟩
  ihave Hm := (show (bigSep Finset.univ fun k => iprop((xPart c (xOth c k) (xAt m c) ∗ xPart c (xMe c k) (xAt m c))
    ∗ (has c (outMe c k) fullShare (tilV m c k) ∗ has c (outOx c k) fullShare (tilV m (xp c) k)
      ∗ has c (outMe (yp c) k) fullShare (tilV m (yp c) k) ∗ has c (outOx (yp c) k) fullShare (tilV m (xp (yp c)) k))
    ∗ anyAt c (chunk othM k) ∗ anyAt c (chunk meM k) ∗ anyAt c (chunk sndM k) ∗ anyAt c (chunk rcvM k) ∗ anyAt c (chunk tilM k) ∗ anyAt c (chunk oxM k)) : sProp 𝕄)
    ⊢ iprop((bigSep Finset.univ fun k => iprop(xPart c (xOth c k) (xAt m c) ∗ xPart c (xMe c k) (xAt m c)))
      ∗ (bigSep Finset.univ fun k => iprop(has c (outMe c k) fullShare (tilV m c k) ∗ has c (outOx c k) fullShare (tilV m (xp c) k)
        ∗ has c (outMe (yp c) k) fullShare (tilV m (yp c) k) ∗ has c (outOx (yp c) k) fullShare (tilV m (xp (yp c)) k)))
      ∗ (bigSep Finset.univ fun k => anyAt c (chunk othM k)) ∗ (bigSep Finset.univ fun k => anyAt c (chunk meM k)) ∗ (bigSep Finset.univ fun k => anyAt c (chunk sndM k))
      ∗ (bigSep Finset.univ fun k => anyAt c (chunk rcvM k)) ∗ (bigSep Finset.univ fun k => anyAt c (chunk tilM k)) ∗ (bigSep Finset.univ fun k => anyAt c (chunk oxM k)))
    from by simp only [bigSep_sep']; exact Entails.of_eq rfl) $$ Hm
  icases Hm with ⟨Hx, Hv, S0, S1, S2, S3, S4, S5⟩
  ihave Hx := (Entails.of_eq (x_cut c (xAt m c)).symm) $$ Hx
  ihave Hv := (out_join m c) $$ Hv
  isplitl [Hb Hx Hv]
  · isplitl [Hb]; · iexact Hb
    isplitl [Hx] <;> iassumption
  isplitl [Hz]; · iexact Hz
  isplitl [S0]; · iapply (scratch_join othM (Memref.isWhole_whole _) c (m _)); iexact S0
  isplitl [S1]; · iapply (scratch_join meM (Memref.isWhole_whole _) c (m _)); iexact S1
  isplitl [S2]; · iapply (scratch_join sndM (Memref.isWhole_whole _) c (m _)); iexact S2
  isplitl [S3]; · iapply (scratch_join rcvM (Memref.isWhole_whole _) c (m _)); iexact S3
  isplitl [S4]; · iapply (scratch_join tilM (Memref.isWhole_whole _) c (m _)); iexact S4
  iapply (scratch_join oxM (Memref.isWhole_whole _) c (m _)); iexact S5

/-- No window is waited for. -/
theorem waits (c : Dev nD) : (levAts L lv : sProp 𝕄) ⊢ Pipeline.cellsWaits cfgs (dats m) () 0 c :=
  Pipeline.cellsWaits_intro cfgs (dats m) () 0 c fun w => w.elim0

/-! ## The run -/

/-- What is read off a device's memory at the end. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = xAt m c ∧ Result m c (s.mem ((c : Thread nD τ).loc main_v1))

/-- The memory at the end, read off what a device then holds. -/
theorem read_off (c : Dev nD) (s' : Phys nD τ sig (Elt F)) : iprop(finish m c ∗ emp ∗ SI s') ⊢ (|={Set.univ}=> iprop(⌜QY m c s'.mem⌝ ∗ SI s') : sProp 𝕄) := by
  unfold finish
  iintro ⟨⟨Hu, Hx, ⟨%g, %hg, Hv⟩⟩, -, HSI⟩
  ihave %hx := (SI_pointsTo_agree) $$ [HSI Hx]
  · isplitl [HSI] <;> iassumption
  ihave %hv := (SI_pointsTo_agree) $$ [HSI Hv]
  · isplitl [HSI] <;> iassumption
  imod (Pipeline.unscopedSems0_read (X := unscopedSems0 c) (c := c) fupd_intro s') $$ [Hu HSI] with ⟨%hu, HSI⟩
  · isplitl [Hu] <;> iassumption
  imodintro
  isplitr
  · ipureintro
    refine ⟨hu, funext fun i => hx i (Finset.mem_univ i), ?_⟩
    rw [show s'.mem.mem ((c : Thread nD τ).loc main_v1) = g from funext fun i => hv i (Finset.mem_univ i)]
    exact hg
  · iexact HSI

/-- From any memory with all semaphores at zero, every weakly fair execution of the four devices ends; then every device's
    `x` is as it was, its result holds the four tiles' sums, and every semaphore is at zero. -/
theorem run_main : θ_run defs (onTc (τ := τ) (main (F := F))) ⟨m, fun _ => 0, ρ⟩
    (fun r => (∀ c : Dev nD, r.2.mem ((c : Thread nD τ).loc main_arg0) = xAt m c ∧ Result m c (r.2.mem ((c : Thread nD τ).loc main_v1))) ∧ r.2.sem = fun _ => 0) := by
  refine Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := ?hmain)
    (hbody := ?hbody) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := ?hu)
    (hglob := glob m)
    (hA := fun _ w => w.elim0) (hpf := fun _ k => k.elim0)
    (X := start m) (Y := finish m) (Z := fun _ => iprop(emp))
    (hX := ?hX) (hin := ?hin) (hout := ?hout)
    (QY := QY m)
    (hY := ?hY)
    (hQ := ?hQ)
  case hmain => exact fun _ => rfl
  case hbody => exact fun c => (body_obligation m c).loose
  case hu =>
    unfold u₀
    iintro Hu
    ihave H := (ownU_pair _ _) $$ Hu
    icases H with ⟨HP, HX⟩
    imod (fund m) $$ HX with HG
    imodintro
    isplitl [HP] <;> iassumption
  case hX => exact start_intro m ρ
  case hin => exact first_intro m
  case hout => exact last_exit m
  case hY => exact read_off m
  case hQ => exact fun _ h hs => ⟨fun c => (h c).2.2.2, sem_eq_zero hs fun c => (h c).2.2.1⟩

end Cert.KernelIdeal.Own

end
-- ==== Proof.Sum.lean ====
module

public import proofs.«01_k».proof.Proof.Run
public import proofs.«01_k».proof.Proof.Gen.ReferenceIdeal.Run
public import Idealize.ShloMosaic.Lib.Layout
public import Idealize.ShloMosaic.Lib.Pipeline.Value
public import Idealize.ShloMosaic.Lib.Pointwise

@[expose] public section

set_option maxRecDepth 16384

/-! # What the result holds is the reference's sum

Over the extended reals: an entry of the tile that the device `d` computes is the entry of its own block of `x` plus the
same entry of its x-neighbour's; these two blocks are the two layers of the whole `x` on that device's columns, and the
reference adds the two layers. -/

noncomputable section

namespace Cert.KernelIdeal.Own

open Idealize.ShloMosaic
open Idealize.ShloMosaic.TcCoe
open Cert.KernelIdeal.Gen

/-- Where the entry `j` of chunk `k` of the half that `d` keeps is in a device's block of `x`. -/
def place (d : Dev nD) (k : Fin 16) (j : S64x1024.Idx) : S1x2048x1024.Idx := fun a =>
  ⟨![0, 1024 * (d.val / 2) + 64 * k.val + (j 0).val, (j 1).val] a, by
    have h0 : (j 0).val < 64 := (j 0).isLt
    have h1 : (j 1).val < 1024 := (j 1).isLt
    have := dev_lt d; have := k.isLt
    fin_cases a <;> simp <;> omega⟩

/-- Reading that chunk. -/
theorem xMe_read {F : FTy → Type} [FloatOps F] (d : Dev nD) (k : Fin 16) (f : S1x2048x1024.Idx → Elt F .f32) (j : S64x1024.Idx) :
    (xMe d k).view.read (Elt F) f j = f (place d k j) := by
  have h0 : (j 0).val < 64 := (j 0).isLt
  have h1 : (j 1).val < 1024 := (j 1).isLt
  let y : S1x64x1024.Idx := fun a => ⟨![0, (j 0).val, (j 1).val] a, by fin_cases a <;> simp <;> omega⟩
  have hy : Shape.reshapeEquiv squeezes_S1x64x1024_S64x1024.numel_eq j = y :=
    Shape.reshapeEquiv_eq_of_vals _ j y _ _
      (rowMajor_val3 y (64 * 1024) 1024 rfl rfl) (rowMajor_val2 j 1024 rfl) (by simp [y])
  show f ((Rect.unit (s := S1x2048x1024) (k0_off2 d (BitVec.ofNat 32 (64 * k.val))) S1x64x1024.size (k0_off2_inb d k)).emb
    (Shape.reshapeEquiv squeezes_S1x64x1024_S64x1024.numel_eq j)) = _
  rw [hy]
  refine congrArg f (funext fun a => Fin.ext ?_)
  show k0_off2 d (BitVec.ofNat 32 (64 * k.val)) a + 1 * (y a).val = _
  rw [k0_off2_eq]
  fin_cases a <;> simp [y, place]

/-- A device's block of `x`, over the extended reals. -/
abbrev own (m : (ℓ : Loc nD τ sig) → Buf (Elt Ideal) ℓ) (c : Dev nD) : S1x2048x1024.Idx → EReal := xAt m c

/-- An entry of the tile that `d` computes: its own `x` there, plus its x-neighbour's. -/
theorem tile_entry (m : (ℓ : Loc nD τ sig) → Buf (Elt Ideal) ℓ) (d : Dev nD) (k : Fin 16) (j : S64x1024.Idx) :
    tilV m d k j = own m d (place d k j) + own m (xp d) (place d k j) := by
  unfold tilV combine sndV narrow
  rw [shapeCast_self, shapeCast_self]
  show (id (meV m d k j) : EReal) + (id (othV m (xp d) k j) : EReal) = _
  unfold id
  unfold meV othV
  rw [xOth_read (xp d) k, xp_xp, xMe_read, xMe_read]

/-- The entry of the whole `x` in the layer `b`, over the entry `i` of the result. -/
def layer (b : Fin 2) (i : S2048x2048.Idx) : ReferenceIdeal.S2x2048x2048.Idx := fun a =>
  ⟨![b.val, (i 0).val, (i 1).val] a, by
    have h0 : (i 0).val < 2048 := (i 0).isLt
    have h1 : (i 1).val < 2048 := (i 1).isLt
    fin_cases a <;> simp <;> omega⟩

/-- The layer that a device holds a part of. -/
def mine (e : Dev nD) : Fin 2 := ⟨e.val / 2, by have := dev_lt e; omega⟩

/-- The block of the whole `x` that a device holds. -/
abbrev spot (e : Dev nD) : (b : Fin 3) → Fin (Layout.cutSize [2, 2] (![[0], [], [1]] b)) := Layout.meshBlock [2, 2] ![[0], [], [1]] e

/-- A device's block of the whole `x`. -/
abbrev part (X : ReferenceIdeal.S2x2048x2048.Idx → EReal) (e : Dev nD) : S1x2048x1024.Idx → EReal :=
  Layout.blockN ⟨3, ![1, 2048, 1024]⟩ ⟨3, ![2, 2048, 2048]⟩ (Layout.meshBlock [2, 2] ![[0], [], [1]] e) X

/-- A device's place along the layers. -/
theorem mesh_0 : ∀ e : Dev nD, (spot e 0).val = e.val / 2 := by decide +kernel
/-- Every device has all the rows. -/
theorem mesh_1 : ∀ e : Dev nD, (spot e 1).val = 0 := by decide +kernel
/-- Its place along the columns. -/
theorem mesh_2 : ∀ e : Dev nD, (spot e 2).val = e.val % 2 := by decide +kernel

/-- The block of the whole `x` of a device on `d`'s columns, at an entry of `d`'s tile. -/
theorem block_entry (X : ReferenceIdeal.S2x2048x2048.Idx → EReal) (d e : Dev nD) (he : e.val % 2 = d.val % 2) (k : Fin 16) (j : S64x1024.Idx) :
    part X e (place d k j) = X (layer (mine e) ((outMe d k).view.emb j)) := by
  unfold part
  rw [Layout.blockN_apply]
  refine congrArg X (funext fun a => Fin.ext ?_)
  rw [Layout.TilesN.idx_val]
  have ho (b : Fin 2) : ((outMe d k).view.emb j b).val = k0_off3 d (BitVec.ofNat 32 (64 * k.val)) b + 1 * (j b).val := rfl
  rw [k0_off3_eq] at ho
  have ho0 := ho 0
  have ho1 := ho 1
  simp only [Matrix.cons_val_zero, Matrix.cons_val_one] at ho0 ho1
  fin_cases a
  · show (spot e 0).val * 1 + 0 = e.val / 2
    rw [mesh_0]; omega
  · show (spot e 1).val * 2048 + (1024 * (d.val / 2) + 64 * k.val + (j 0).val) = ((outMe d k).view.emb j 0).val
    rw [mesh_1, ho0]; omega
  · show (spot e 2).val * 1024 + (j 1).val = ((outMe d k).view.emb j 1).val
    rw [mesh_2, ho1, he]; omega

/-! ## The reference -/

/-- The sum of the two layers of the whole `x`. -/
def total (X : ReferenceIdeal.S2x2048x2048.Idx → EReal) : S2048x2048.Idx → EReal := fun i => X (layer 0 i) + X (layer 1 i)

/-- The reference's result is that sum. -/
theorem reference_entry (X : FVec Ideal ReferenceIdeal.S2x2048x2048 .f32) :
    truncf .bf16 (Host.reduceAdd (extf .f32 (truncf .bf16 X ReferenceIdeal.Gen.bitsLt_bf16_f32) ReferenceIdeal.Gen.bitsLt_bf16_f32)
      (constant (F := Ideal) ReferenceIdeal.S_ .f32 0x00000000#32) ReferenceIdeal.Gen.reducesTo_S2x2048x2048_S2048x2048_d0 ReferenceIdeal.Gen.h_S_) ReferenceIdeal.Gen.bitsLt_bf16_f32
      = total X := by
  funext i
  have hr : ReferenceIdeal.S2x2048x2048.Reduces [0] ReferenceIdeal.S2048x2048 := by decide
  show Ideal.hostReduceAdd ReferenceIdeal.Gen.reducesTo_S2x2048x2048_S2048x2048_d0 X (Ideal.ofBits .f32 0x00000000#32) i = _
  rw [Ideal.hostReduceAdd_single _ hr, Ideal.ofBits_zero_f32, zero_add]
  rw [show (∑ k : Fin (ReferenceIdeal.S2x2048x2048.size 0), X (hr.lift i k)) = ∑ k : Fin 2, X (hr.lift i k) from rfl, Fin.sum_univ_two]
  unfold total
  have hl (b : Fin 2) : hr.lift i b = layer b i := funext fun a => Fin.ext (by fin_cases a <;> rfl)
  rw [hl, hl]

/-- A result that holds the four tiles is the reference's sum, where each device holds its block of the whole `x`. -/
theorem result_eq (m : (ℓ : Loc nD τ sig) → Buf (Elt Ideal) ℓ) (X : ReferenceIdeal.S2x2048x2048.Idx → EReal)
    (hX : ∀ c : Dev nD, own m c = part X c)
    (c : Dev nD) (g : S2048x2048.Idx → EReal) (hg : Result m c g) : g = total X := by
  funext i
  obtain ⟨⟨d, k⟩, hi⟩ := (out_cuts c).cover i
  obtain ⟨j, -, rfl⟩ := Finset.mem_map.mp hi
  have h : g ((outMe d k).view.emb j) = tilV m d k j := congrFun (hg d k) j
  rw [h, tile_entry, hX d, hX (xp d), block_entry X d d rfl, block_entry X d (xp d) (side_xp d)]
  unfold total
  have hx : (mine (xp d)).val = 1 - (mine d).val := half_xp d
  rcases (show mine d = 0 ∨ mine d = 1 by generalize mine d = b; revert b; decide) with e | e
  · rw [show mine (xp d) = 1 from Fin.ext (by rw [hx, e]; rfl), e]
  · rw [show mine (xp d) = 0 from Fin.ext (by rw [hx, e]; rfl), e, add_comm]

end Cert.KernelIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Sum
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel over words of bits: it is the same text as the kernel over the extended reals, whose run is for any floats. -/
theorem frame_kernel : Cert.quiescent_Kernel := fun m ρ _ =>
  (θ_run (Cert.KernelIdeal.defs (F := Bits)) _ _).mono (fun _ h => ⟨fun c => (h.1 c).1, h.2⟩) (Cert.KernelIdeal.Own.run_main (F := Bits) m ρ)

/-- The kernel over the extended reals: `x` unchanged, every semaphore at zero. -/
theorem frame_ideal : Cert.quiescent_KernelIdeal := fun m ρ _ =>
  (θ_run (Cert.KernelIdeal.defs (F := Ideal)) _ _).mono (fun _ h => ⟨fun c => (h.1 c).1, h.2⟩) (Cert.KernelIdeal.Own.run_main (F := Ideal) m ρ)

/-- The reference: its argument unchanged; it has no semaphore. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-- The result on every device is the reference's: the sum of the two layers of the whole `x`. -/
theorem value : Cert.algebraic_KernelIdeal_ReferenceIdeal := fun m ρ m' ρ' _ hx =>
  ⟨Cert.KernelIdeal.Own.total (m' (((0 : Dev Cert.ReferenceIdeal.nD).tc : Thread Cert.ReferenceIdeal.nD Cert.ReferenceIdeal.τ).loc Cert.ReferenceIdeal.main_arg0)),
    (θ_run (Cert.KernelIdeal.defs (F := Ideal)) _ _).mono
      (fun _ h c => ⟨Cert.KernelIdeal.Own.result_eq m _ hx c _ (h.1 c).2, (h.1 c).1⟩) (Cert.KernelIdeal.Own.run_main (F := Ideal) m ρ),
    (θ_run (Cert.ReferenceIdeal.defs (F := Ideal)) _ _).mono
      (fun _ h => ⟨(h 0).1.trans (Cert.KernelIdeal.Own.reference_entry _), (h 0).2⟩) (Cert.ReferenceIdeal.Value.run (F := Ideal) m' ρ')⟩

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
